-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v274) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S32x256x9 : Shape := ⟨3, ![32, 256, 9]⟩
abbrev S5679x512 : Shape := ⟨2, ![5679, 512]⟩
abbrev S512 : Shape := ⟨1, ![512]⟩
abbrev S631x512 : Shape := ⟨2, ![631, 512]⟩
abbrev S2x512x1536 : Shape := ⟨3, ![2, 512, 1536]⟩
abbrev S2x1536 : Shape := ⟨2, ![2, 1536]⟩
abbrev S2x512x512 : Shape := ⟨3, ![2, 512, 512]⟩
abbrev S2x512 : Shape := ⟨2, ![2, 512]⟩
abbrev S512x512 : Shape := ⟨2, ![512, 512]⟩
abbrev S_ : Shape := ⟨0, ![]⟩

class Facts : Prop where
  bcast_S_S32x256x9 : S_.BroadcastsInDim S32x256x9 (![] : Fin 0 → Fin S32x256x9.rank)
  reducesTo_S32x256x9_S_d0_1_2 : S32x256x9.ReducesTo [0, 1, 2] S_
  h_S_ : 0 < S_.numel
  bcast_S_S631x512 : S_.BroadcastsInDim S631x512 (![] : Fin 0 → Fin S631x512.rank)
  reducesTo_S631x512_S_d0_1 : S631x512.ReducesTo [0, 1] S_
  bcast_S_S512 : S_.BroadcastsInDim S512 (![] : Fin 0 → Fin S512.rank)
  reducesTo_S512_S_d0 : S512.ReducesTo [0] S_
  bcast_S_S2x512x1536 : S_.BroadcastsInDim S2x512x1536 (![] : Fin 0 → Fin S2x512x1536.rank)
  reducesTo_S2x512x1536_S_d0_1_2 : S2x512x1536.ReducesTo [0, 1, 2] S_
  bcast_S_S2x1536 : S_.BroadcastsInDim S2x1536 (![] : Fin 0 → Fin S2x1536.rank)
  reducesTo_S2x1536_S_d0_1 : S2x1536.ReducesTo [0, 1] S_
  bcast_S_S2x512x512 : S_.BroadcastsInDim S2x512x512 (![] : Fin 0 → Fin S2x512x512.rank)
  reducesTo_S2x512x512_S_d0_1_2 : S2x512x512.ReducesTo [0, 1, 2] S_
  bcast_S_S2x512 : S_.BroadcastsInDim S2x512 (![] : Fin 0 → Fin S2x512.rank)
  reducesTo_S2x512_S_d0_1 : S2x512.ReducesTo [0, 1] S_

variable [Facts]

def fn_part4 {F : FTy → Type} [FloatOps F] (main_arg16 : FVec F S2x512 .f32) (main_v65 : IVec S_ 1) (main_v66 : FVec F S2x512 .f32) (main_v67 : FVec F S2x512 .f32) : IVec S_ 1 :=
  let main_v68 : IVec S2x512 1 := cmpf .olt main_v66 main_v67
  let main_c_26 : IVec S_ 1 := constantI S_ 1 1#1
  let main_v69 : IVec S_ 1 := (fun x v => Host.reduce IntOp.andi x v reducesTo_S2x512_S_d0_1 h_S_) main_v68 main_c_26
  let main_v70 : IVec S_ 1 := andi main_v65 main_v69
  let main_v71 : FVec F S2x512 .f32 := Host.absf main_arg16
  let main_cst_27 : FVec F S_ .f32 := constant S_ .f32 0x7F800000#32
  let main_v72 : FVec F S2x512 .f32 := broadcastInDim S2x512 ![] bcast_S_S2x512 main_cst_27
  let main_v73 : IVec S2x512 1 := cmpf .olt main_v71 main_v72
  let main_c_28 : IVec S_ 1 := constantI S_ 1 1#1
  let main_v74 : IVec S_ 1 := (fun x v => Host.reduce IntOp.andi x v reducesTo_S2x512_S_d0_1 h_S_) main_v73 main_c_28
  let main_v75 : IVec S_ 1 := andi main_v70 main_v74
  main_v75

def fn_part3 {F : FTy → Type} [FloatOps F] (main_arg12 : FVec F S2x512 .f32) (main_arg13 : FVec F S2x512x512 .f32) (main_arg14 : FVec F S2x512 .f32) (main_arg15 : FVec F S2x512 .f32) (main_arg16 : FVec F S2x512 .f32) (main_v50 : IVec S_ 1) : IVec S_ 1 :=
  let main_v51 : FVec F S2x512 .f32 := Host.absf main_arg12
  let main_cst_19 : FVec F S_ .f32 := constant S_ .f32 0x7F800000#32
  let main_v52 : FVec F S2x512 .f32 := broadcastInDim S2x512 ![] bcast_S_S2x512 main_cst_19
  let main_v53 : IVec S2x512 1 := cmpf .olt main_v51 main_v52
  let main_c_20 : IVec S_ 1 := constantI S_ 1 1#1
  let main_v54 : IVec S_ 1 := (fun x v => Host.reduce IntOp.andi x v reducesTo_S2x512_S_d0_1 h_S_) main_v53 main_c_20
  let main_v55 : IVec S_ 1 := andi main_v50 main_v54
  let main_v56 : FVec F S2x512x512 .f32 := Host.absf main_arg13
  let main_cst_21 : FVec F S_ .f32 := constant S_ .f32 0x7F800000#32
  let main_v57 : FVec F S2x512x512 .f32 := broadcastInDim S2x512x512 ![] bcast_S_S2x512x512 main_cst_21
  let main_v58 : IVec S2x512x512 1 := cmpf .olt main_v56 main_v57
  let main_c_22 : IVec S_ 1 := constantI S_ 1 1#1
  let main_v59 : IVec S_ 1 := (fun x v => Host.reduce IntOp.andi x v reducesTo_S2x512x512_S_d0_1_2 h_S_) main_v58 main_c_22
  let main_v60 : IVec S_ 1 := andi main_v55 main_v59
  let main_v61 : FVec F S2x512 .f32 := Host.absf main_arg14
  let main_cst_23 : FVec F S_ .f32 := constant S_ .f32 0x7F800000#32
  let main_v62 : FVec F S2x512 .f32 := broadcastInDim S2x512 ![] bcast_S_S2x512 main_cst_23
  let main_v63 : IVec S2x512 1 := cmpf .olt main_v61 main_v62
  let main_c_24 : IVec S_ 1 := constantI S_ 1 1#1
  let main_v64 : IVec S_ 1 := (fun x v => Host.reduce IntOp.andi x v reducesTo_S2x512_S_d0_1 h_S_) main_v63 main_c_24
  let main_v65 : IVec S_ 1 := andi main_v60 main_v64
  let main_v66 : FVec F S2x512 .f32 := Host.absf main_arg15
  let main_cst_25 : FVec F S_ .f32 := constant S_ .f32 0x7F800000#32
  let main_v67 : FVec F S2x512 .f32 := broadcastInDim S2x512 ![] bcast_S_S2x512 main_cst_25
  fn_part4 (F := F) main_arg16 main_v65 main_v66 main_v67

def fn_part2 {F : FTy → Type} [FloatOps F] (main_arg9 : FVec F S2x512 .f32) (main_arg10 : FVec F S2x512 .f32) (main_arg11 : FVec F S2x512x512 .f32) (main_arg12 : FVec F S2x512 .f32) (main_arg13 : FVec F S2x512x512 .f32) (main_arg14 : FVec F S2x512 .f32) (main_arg15 : FVec F S2x512 .f32) (main_arg16 : FVec F S2x512 .f32) (main_v30 : IVec S_ 1) (main_v33 : IVec S2x512 1) : IVec S_ 1 :=
  let main_c_12 : IVec S_ 1 := constantI S_ 1 1#1
  let main_v34 : IVec S_ 1 := (fun x v => Host.reduce IntOp.andi x v reducesTo_S2x512_S_d0_1 h_S_) main_v33 main_c_12
  let main_v35 : IVec S_ 1 := andi main_v30 main_v34
  let main_v36 : FVec F S2x512 .f32 := Host.absf main_arg9
  let main_cst_13 : FVec F S_ .f32 := constant S_ .f32 0x7F800000#32
  let main_v37 : FVec F S2x512 .f32 := broadcastInDim S2x512 ![] bcast_S_S2x512 main_cst_13
  let main_v38 : IVec S2x512 1 := cmpf .olt main_v36 main_v37
  let main_c_14 : IVec S_ 1 := constantI S_ 1 1#1
  let main_v39 : IVec S_ 1 := (fun x v => Host.reduce IntOp.andi x v reducesTo_S2x512_S_d0_1 h_S_) main_v38 main_c_14
  let main_v40 : IVec S_ 1 := andi main_v35 main_v39
  let main_v41 : FVec F S2x512 .f32 := Host.absf main_arg10
  let main_cst_15 : FVec F S_ .f32 := constant S_ .f32 0x7F800000#32
  let main_v42 : FVec F S2x512 .f32 := broadcastInDim S2x512 ![] bcast_S_S2x512 main_cst_15
  let main_v43 : IVec S2x512 1 := cmpf .olt main_v41 main_v42
  let main_c_16 : IVec S_ 1 := constantI S_ 1 1#1
  let main_v44 : IVec S_ 1 := (fun x v => Host.reduce IntOp.andi x v reducesTo_S2x512_S_d0_1 h_S_) main_v43 main_c_16
  let main_v45 : IVec S_ 1 := andi main_v40 main_v44
  let main_v46 : FVec F S2x512x512 .f32 := Host.absf main_arg11
  let main_cst_17 : FVec F S_ .f32 := constant S_ .f32 0x7F800000#32
  let main_v47 : FVec F S2x512x512 .f32 := broadcastInDim S2x512x512 ![] bcast_S_S2x512x512 main_cst_17
  let main_v48 : IVec S2x512x512 1 := cmpf .olt main_v46 main_v47
  let main_c_18 : IVec S_ 1 := constantI S_ 1 1#1
  let main_v49 : IVec S_ 1 := (fun x v => Host.reduce IntOp.andi x v reducesTo_S2x512x512_S_d0_1_2 h_S_) main_v48 main_c_18
  let main_v50 : IVec S_ 1 := andi main_v45 main_v49
  fn_part3 (F := F) main_arg12 main_arg13 main_arg14 main_arg15 main_arg16 main_v50

def fn_part1 {F : FTy → Type} [FloatOps F] (main_arg6 : FVec F S2x1536 .f32) (main_arg7 : FVec F S2x512x512 .f32) (main_arg8 : FVec F S2x512 .f32) (main_arg9 : FVec F S2x512 .f32) (main_arg10 : FVec F S2x512 .f32) (main_arg11 : FVec F S2x512x512 .f32) (main_arg12 : FVec F S2x512 .f32) (main_arg13 : FVec F S2x512x512 .f32) (main_arg14 : FVec F S2x512 .f32) (main_arg15 : FVec F S2x512 .f32) (main_arg16 : FVec F S2x512 .f32) (main_v15 : IVec S_ 1) (main_v16 : FVec F S2x512x1536 .f32) : IVec S_ 1 :=
  let main_cst_5 : FVec F S_ .f32 := constant S_ .f32 0x7F800000#32
  let main_v17 : FVec F S2x512x1536 .f32 := broadcastInDim S2x512x1536 ![] bcast_S_S2x512x1536 main_cst_5
  let main_v18 : IVec S2x512x1536 1 := cmpf .olt main_v16 main_v17
  let main_c_6 : IVec S_ 1 := constantI S_ 1 1#1
  let main_v19 : IVec S_ 1 := (fun x v => Host.reduce IntOp.andi x v reducesTo_S2x512x1536_S_d0_1_2 h_S_) main_v18 main_c_6
  let main_v20 : IVec S_ 1 := andi main_v15 main_v19
  let main_v21 : FVec F S2x1536 .f32 := Host.absf main_arg6
  let main_cst_7 : FVec F S_ .f32 := constant S_ .f32 0x7F800000#32
  let main_v22 : FVec F S2x1536 .f32 := broadcastInDim S2x1536 ![] bcast_S_S2x1536 main_cst_7
  let main_v23 : IVec S2x1536 1 := cmpf .olt main_v21 main_v22
  let main_c_8 : IVec S_ 1 := constantI S_ 1 1#1
  let main_v24 : IVec S_ 1 := (fun x v => Host.reduce IntOp.andi x v reducesTo_S2x1536_S_d0_1 h_S_) main_v23 main_c_8
  let main_v25 : IVec S_ 1 := andi main_v20 main_v24
  let main_v26 : FVec F S2x512x512 .f32 := Host.absf main_arg7
  let main_cst_9 : FVec F S_ .f32 := constant S_ .f32 0x7F800000#32
  let main_v27 : FVec F S2x512x512 .f32 := broadcastInDim S2x512x512 ![] bcast_S_S2x512x512 main_cst_9
  let main_v28 : IVec S2x512x512 1 := cmpf .olt main_v26 main_v27
  let main_c_10 : IVec S_ 1 := constantI S_ 1 1#1
  let main_v29 : IVec S_ 1 := (fun x v => Host.reduce IntOp.andi x v reducesTo_S2x512x512_S_d0_1_2 h_S_) main_v28 main_c_10
  let main_v30 : IVec S_ 1 := andi main_v25 main_v29
  let main_v31 : FVec F S2x512 .f32 := Host.absf main_arg8
  let main_cst_11 : FVec F S_ .f32 := constant S_ .f32 0x7F800000#32
  let main_v32 : FVec F S2x512 .f32 := broadcastInDim S2x512 ![] bcast_S_S2x512 main_cst_11
  let main_v33 : IVec S2x512 1 := cmpf .olt main_v31 main_v32
  fn_part2 (F := F) main_arg9 main_arg10 main_arg11 main_arg12 main_arg13 main_arg14 main_arg15 main_arg16 main_v30 main_v33

def fn {F : FTy → Type} [FloatOps F] (main_arg0 : IVec S32x256x9 32) (main_arg1 : FVec F S5679x512 .f32) (main_arg2 : FVec F S512 .f32) (main_arg3 : FVec F S631x512 .f32) (main_arg4 : FVec F S512 .f32) (main_arg5 : FVec F S2x512x1536 .f32) (main_arg6 : FVec F S2x1536 .f32) (main_arg7 : FVec F S2x512x512 .f32) (main_arg8 : FVec F S2x512 .f32) (main_arg9 : FVec F S2x512 .f32) (main_arg10 : FVec F S2x512 .f32) (main_arg11 : FVec F S2x512x512 .f32) (main_arg12 : FVec F S2x512 .f32) (main_arg13 : FVec F S2x512x512 .f32) (main_arg14 : FVec F S2x512 .f32) (main_arg15 : FVec F S2x512 .f32) (main_arg16 : FVec F S2x512 .f32) (main_arg17 : FVec F S512x512 .f32) (main_arg18 : FVec F S512 .f32) : IVec S_ 1 :=
  let main_c : IVec S_ 32 := constantI S_ 32 0#32
  let main_v0 : IVec S32x256x9 32 := broadcastInDim S32x256x9 ![] bcast_S_S32x256x9 main_c
  let main_v1 : IVec S32x256x9 1 := cmpi .sge main_arg0 main_v0
  let main_c_0 : IVec S_ 32 := constantI S_ 32 631#32
  let main_v2 : IVec S32x256x9 32 := broadcastInDim S32x256x9 ![] bcast_S_S32x256x9 main_c_0
  let main_v3 : IVec S32x256x9 1 := cmpi .slt main_arg0 main_v2
  let main_v4 : IVec S32x256x9 1 := andi main_v1 main_v3
  let main_c_1 : IVec S_ 1 := constantI S_ 1 1#1
  let main_v5 : IVec S_ 1 := (fun x v => Host.reduce IntOp.andi x v reducesTo_S32x256x9_S_d0_1_2 h_S_) main_v4 main_c_1
  let main_v6 : FVec F S631x512 .f32 := Host.absf main_arg3
  let main_cst : FVec F S_ .f32 := constant S_ .f32 0x7F800000#32
  let main_v7 : FVec F S631x512 .f32 := broadcastInDim S631x512 ![] bcast_S_S631x512 main_cst
  let main_v8 : IVec S631x512 1 := cmpf .olt main_v6 main_v7
  let main_c_2 : IVec S_ 1 := constantI S_ 1 1#1
  let main_v9 : IVec S_ 1 := (fun x v => Host.reduce IntOp.andi x v reducesTo_S631x512_S_d0_1 h_S_) main_v8 main_c_2
  let main_v10 : IVec S_ 1 := andi main_v5 main_v9
  let main_v11 : FVec F S512 .f32 := Host.absf main_arg4
  let main_cst_3 : FVec F S_ .f32 := constant S_ .f32 0x7F800000#32
  let main_v12 : FVec F S512 .f32 := broadcastInDim S512 ![] bcast_S_S512 main_cst_3
  let main_v13 : IVec S512 1 := cmpf .olt main_v11 main_v12
  let main_c_4 : IVec S_ 1 := constantI S_ 1 1#1
  let main_v14 : IVec S_ 1 := (fun x v => Host.reduce IntOp.andi x v reducesTo_S512_S_d0 h_S_) main_v13 main_c_4
  let main_v15 : IVec S_ 1 := andi main_v10 main_v14
  let main_v16 : FVec F S2x512x1536 .f32 := Host.absf main_arg5
  fn_part1 (F := F) main_arg6 main_arg7 main_arg8 main_arg9 main_arg10 main_arg11 main_arg12 main_arg13 main_arg14 main_arg15 main_arg16 main_v15 main_v16
-- ==== Kernel.lean ====
abbrev S32x256x9 : Shape := ⟨3, ![32, 256, 9]⟩
abbrev S5679x512 : Shape := ⟨2, ![5679, 512]⟩
abbrev S512 : Shape := ⟨1, ![512]⟩
abbrev S631x512 : Shape := ⟨2, ![631, 512]⟩
abbrev S2x512x1536 : Shape := ⟨3, ![2, 512, 1536]⟩
abbrev S2x1536 : Shape := ⟨2, ![2, 1536]⟩
abbrev S2x512x512 : Shape := ⟨3, ![2, 512, 512]⟩
abbrev S2x512 : Shape := ⟨2, ![2, 512]⟩
abbrev S512x512 : Shape := ⟨2, ![512, 512]⟩
abbrev S8192x9 : Shape := ⟨2, ![8192, 9]⟩
abbrev S64x8x16x9 : Shape := ⟨4, ![64, 8, 16, 9]⟩
abbrev S64x8x9x16 : Shape := ⟨4, ![64, 8, 9, 16]⟩
abbrev S64x1152x1 : Shape := ⟨3, ![64, 1152, 1]⟩
abbrev S_ : Shape := ⟨0, ![]⟩
abbrev S1024 : Shape := ⟨1, ![1024]⟩
abbrev S1536 : Shape := ⟨1, ![1536]⟩
abbrev S1x1x1536 : Shape := ⟨3, ![1, 1, 1536]⟩
abbrev S1x1536 : Shape := ⟨2, ![1, 1536]⟩
abbrev S144x144 : Shape := ⟨2, ![144, 144]⟩
abbrev S16x144 : Shape := ⟨2, ![16, 144]⟩
abbrev S1x512 : Shape := ⟨2, ![1, 512]⟩
abbrev S2x1x1536 : Shape := ⟨3, ![2, 1, 1536]⟩
abbrev S2x1x512 : Shape := ⟨3, ![2, 1, 512]⟩
abbrev S8192x512 : Shape := ⟨2, ![8192, 512]⟩
abbrev S1x1152x1 : Shape := ⟨3, ![1, 1152, 1]⟩
abbrev S128x9 : Shape := ⟨2, ![128, 9]⟩
abbrev S128x512 : Shape := ⟨2, ![128, 512]⟩
abbrev S8x128 : Shape := ⟨2, ![8, 128]⟩
abbrev S1152x1 : Shape := ⟨2, ![1152, 1]⟩
abbrev S1152x631 : Shape := ⟨2, ![1152, 631]⟩
abbrev S1152x512 : Shape := ⟨2, ![1152, 512]⟩
abbrev S128x631 : Shape := ⟨2, ![128, 631]⟩
abbrev S128x1 : Shape := ⟨2, ![128, 1]⟩
abbrev S128x5679 : Shape := ⟨2, ![128, 5679]⟩
abbrev S1x512x1536 : Shape := ⟨3, ![1, 512, 1536]⟩
abbrev S512x1536 : Shape := ⟨2, ![512, 1536]⟩
abbrev S1152x1536 : Shape := ⟨2, ![1152, 1536]⟩
abbrev S1152x1024 : Shape := ⟨2, ![1152, 1024]⟩
abbrev S144x512 : Shape := ⟨2, ![144, 512]⟩
abbrev S144x64 : Shape := ⟨2, ![144, 64]⟩
abbrev S9216x144 : Shape := ⟨2, ![9216, 144]⟩
abbrev S9216 : Shape := ⟨1, ![9216]⟩
abbrev S9216x1 : Shape := ⟨2, ![9216, 1]⟩
abbrev S1x512x512 : Shape := ⟨3, ![1, 512, 512]⟩
abbrev S1x1x512 : Shape := ⟨3, ![1, 1, 512]⟩
abbrev S1152 : Shape := ⟨1, ![1152]⟩
abbrev S512x1024 : Shape := ⟨2, ![512, 1024]⟩
abbrev S1x1024 : Shape := ⟨2, ![1, 1024]⟩
abbrev S16x512 : Shape := ⟨2, ![16, 512]⟩
abbrev S16x64 : Shape := ⟨2, ![16, 64]⟩
abbrev S1024x144 : Shape := ⟨2, ![1024, 144]⟩
abbrev S1024x1 : Shape := ⟨2, ![1024, 1]⟩
abbrev S128 : Shape := ⟨1, ![128]⟩

abbrev nBuf : Space → Nat
  | .hbm => 130
  | .vmem => 27
  | .smem => 0
  | _ => 0

abbrev hbmTy0_0 (i : Nat) : BufTy := match i % 128 with
  | 0 => ⟨S32x256x9, .i32⟩
  | 1 => ⟨S5679x512, .f32⟩
  | 2 => ⟨S512, .f32⟩
  | 3 => ⟨S631x512, .f32⟩
  | 4 => ⟨S512, .f32⟩
  | 5 => ⟨S2x512x1536, .f32⟩
  | 6 => ⟨S2x1536, .f32⟩
  | 7 => ⟨S2x512x512, .f32⟩
  | 8 => ⟨S2x512, .f32⟩
  | 9 => ⟨S2x512, .f32⟩
  | 10 => ⟨S2x512, .f32⟩
  | 11 => ⟨S2x512x512, .f32⟩
  | 12 => ⟨S2x512, .f32⟩
  | 13 => ⟨S2x512x512, .f32⟩
  | 14 => ⟨S2x512, .f32⟩
  | 15 => ⟨S2x512, .f32⟩
  | 16 => ⟨S2x512, .f32⟩
  | 17 => ⟨S512x512, .f32⟩
  | 18 => ⟨S512, .f32⟩
  | 19 => ⟨S8192x9, .i32⟩
  | 20 => ⟨S64x8x16x9, .i32⟩
  | 21 => ⟨S64x8x9x16, .i32⟩
  | 22 => ⟨S64x1152x1, .i32⟩
  | 23 => ⟨S_, .f32⟩
  | 24 => ⟨S512, .f32⟩
  | 25 => ⟨S_, .f32⟩
  | 26 => ⟨S1024, .f32⟩
  | 27 => ⟨S1536, .f32⟩
  | 28 => ⟨S1x1x1536, .f32⟩
  | 29 => ⟨S2x512x1536, .f32⟩
  | 30 => ⟨S2x512x1536, .f32⟩
  | 31 => ⟨S1x1536, .f32⟩
  | 32 => ⟨S2x1536, .f32⟩
  | 33 => ⟨S2x1536, .f32⟩
  | 34 => ⟨S144x144, .i32⟩
  | 35 => ⟨S_, .i32⟩
  | 36 => ⟨S_, .i32⟩
  | 37 => ⟨S_, .i32⟩
  | 38 => ⟨S_, .i1⟩
  | 39 => ⟨S_, .i32⟩
  | 40 => ⟨S_, .i32⟩
  | 41 => ⟨S144x144, .i32⟩
  | 42 => ⟨S144x144, .i32⟩
  | 43 => ⟨S_, .i32⟩
  | 44 => ⟨S144x144, .i32⟩
  | 45 => ⟨S144x144, .i1⟩
  | 46 => ⟨S_, .i32⟩
  | 47 => ⟨S144x144, .i32⟩
  | 48 => ⟨S144x144, .i1⟩
  | 49 => ⟨S_, .i32⟩
  | 50 => ⟨S_, .i1⟩
  | 51 => ⟨S144x144, .i1⟩
  | 52 => ⟨S144x144, .i1⟩
  | 53 => ⟨S144x144, .i1⟩
  | 54 => ⟨S144x144, .i32⟩
  | 55 => ⟨S144x144, .i32⟩
  | 56 => ⟨S144x144, .i32⟩
  | 57 => ⟨S144x144, .i32⟩
  | 58 => ⟨S_, .i32⟩
  | 59 => ⟨S_, .i32⟩
  | 60 => ⟨S_, .i32⟩
  | 61 => ⟨S_, .i1⟩
  | 62 => ⟨S_, .i32⟩
  | 63 => ⟨S_, .i32⟩
  | 64 => ⟨S144x144, .i32⟩
  | 65 => ⟨S144x144, .i32⟩
  | 66 => ⟨S_, .i32⟩
  | 67 => ⟨S144x144, .i32⟩
  | 68 => ⟨S144x144, .i1⟩
  | 69 => ⟨S_, .i32⟩
  | 70 => ⟨S144x144, .i32⟩
  | 71 => ⟨S144x144, .i1⟩
  | 72 => ⟨S_, .i32⟩
  | 73 => ⟨S_, .i1⟩
  | 74 => ⟨S144x144, .i1⟩
  | 75 => ⟨S144x144, .i1⟩
  | 76 => ⟨S144x144, .i1⟩
  | 77 => ⟨S144x144, .i32⟩
  | 78 => ⟨S144x144, .i32⟩
  | 79 => ⟨S144x144, .i32⟩
  | 80 => ⟨S144x144, .i1⟩
  | 81 => ⟨S_, .f32⟩
  | 82 => ⟨S_, .f32⟩
  | 83 => ⟨S144x144, .f32⟩
  | 84 => ⟨S144x144, .f32⟩
  | 85 => ⟨S144x144, .f32⟩
  | 86 => ⟨S144x144, .f32⟩
  | 87 => ⟨S16x144, .i32⟩
  | 88 => ⟨S16x144, .i32⟩
  | 89 => ⟨S_, .i32⟩
  | 90 => ⟨S_, .i32⟩
  | 91 => ⟨S_, .i32⟩
  | 92 => ⟨S_, .i1⟩
  | 93 => ⟨S_, .i32⟩
  | 94 => ⟨S_, .i32⟩
  | 95 => ⟨S16x144, .i32⟩
  | 96 => ⟨S16x144, .i32⟩
  | 97 => ⟨S_, .i32⟩
  | 98 => ⟨S16x144, .i32⟩
  | 99 => ⟨S16x144, .i1⟩
  | 100 => ⟨S_, .i32⟩
  | 101 => ⟨S16x144, .i32⟩
  | 102 => ⟨S16x144, .i1⟩
  | 103 => ⟨S_, .i32⟩
  | 104 => ⟨S_, .i1⟩
  | 105 => ⟨S16x144, .i1⟩
  | 106 => ⟨S16x144, .i1⟩
  | 107 => ⟨S16x144, .i1⟩
  | 108 => ⟨S16x144, .i32⟩
  | 109 => ⟨S16x144, .i32⟩
  | 110 => ⟨S16x144, .i32⟩
  | 111 => ⟨S16x144, .i1⟩
  | 112 => ⟨S_, .f32⟩
  | 113 => ⟨S_, .f32⟩
  | 114 => ⟨S16x144, .f32⟩
  | 115 => ⟨S16x144, .f32⟩
  | 116 => ⟨S16x144, .f32⟩
  | 117 => ⟨S16x144, .f32⟩
  | 118 => ⟨S1x512, .f32⟩
  | 119 => ⟨S1x512, .f32⟩
  | 120 => ⟨S2x1x1536, .f32⟩
  | 121 => ⟨S2x1x512, .f32⟩
  | 122 => ⟨S2x1x512, .f32⟩
  | 123 => ⟨S2x1x512, .f32⟩
  | 124 => ⟨S2x1x512, .f32⟩
  | 125 => ⟨S2x1x512, .f32⟩
  | 126 => ⟨S2x1x512, .f32⟩
  | 127 => ⟨S2x1x512, .f32⟩
  | _ => ⟨S32x256x9, .i32⟩

abbrev hbmTy0_1 (i : Nat) : BufTy := match i % 128 with
  | 0 => ⟨S1x512, .f32⟩
  | 1 => ⟨S8192x512, .f32⟩
  | _ => ⟨S32x256x9, .i32⟩

abbrev hbmTy (i : Nat) : BufTy := match i / 128 with
  | 0 => hbmTy0_0 i
  | 1 => hbmTy0_1 i
  | _ => ⟨S32x256x9, .i32⟩

abbrev bufTy : (tb : Table) → Fin (tcTables nBuf tb) → BufTy
  | .hbm, ⟨i, _⟩ => hbmTy i
  | .local _ .vmem, ⟨0, _⟩ => ⟨S1x1152x1, .i32⟩
  | .local _ .vmem, ⟨1, _⟩ => ⟨S1x1152x1, .i32⟩
  | .local _ .vmem, ⟨2, _⟩ => ⟨S128x9, .i32⟩
  | .local _ .vmem, ⟨3, _⟩ => ⟨S128x9, .i32⟩
  | .local _ .vmem, ⟨4, _⟩ => ⟨S144x144, .f32⟩
  | .local _ .vmem, ⟨5, _⟩ => ⟨S16x144, .f32⟩
  | .local _ .vmem, ⟨6, _⟩ => ⟨S631x512, .f32⟩
  | .local _ .vmem, ⟨7, _⟩ => ⟨S1x512, .f32⟩
  | .local _ .vmem, ⟨8, _⟩ => ⟨S5679x512, .f32⟩
  | .local _ .vmem, ⟨9, _⟩ => ⟨S1x512, .f32⟩
  | .local _ .vmem, ⟨10, _⟩ => ⟨S2x512x1536, .f32⟩
  | .local _ .vmem, ⟨11, _⟩ => ⟨S2x1x1536, .f32⟩
  | .local _ .vmem, ⟨12, _⟩ => ⟨S2x512x512, .f32⟩
  | .local _ .vmem, ⟨13, _⟩ => ⟨S2x1x512, .f32⟩
  | .local _ .vmem, ⟨14, _⟩ => ⟨S2x1x512, .f32⟩
  | .local _ .vmem, ⟨15, _⟩ => ⟨S2x1x512, .f32⟩
  | .local _ .vmem, ⟨16, _⟩ => ⟨S2x512x512, .f32⟩
  | .local _ .vmem, ⟨17, _⟩ => ⟨S2x1x512, .f32⟩
  | .local _ .vmem, ⟨18, _⟩ => ⟨S2x512x512, .f32⟩
  | .local _ .vmem, ⟨19, _⟩ => ⟨S2x1x512, .f32⟩
  | .local _ .vmem, ⟨20, _⟩ => ⟨S2x1x512, .f32⟩
  | .local _ .vmem, ⟨21, _⟩ => ⟨S2x1x512, .f32⟩
  | .local _ .vmem, ⟨22, _⟩ => ⟨S512x512, .f32⟩
  | .local _ .vmem, ⟨23, _⟩ => ⟨S1x512, .f32⟩
  | .local _ .vmem, ⟨24, _⟩ => ⟨S128x512, .f32⟩
  | .local _ .vmem, ⟨25, _⟩ => ⟨S128x512, .f32⟩
  | .local _ .vmem, ⟨26, _⟩ => ⟨S8x128, .f32⟩
  | _, _ => ⟨S32x256x9, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_cst : Ref sig .tc := ⟨.hbm, 23, rfl⟩
abbrev main_v4 : Ref sig .tc := ⟨.hbm, 24, rfl⟩
abbrev main_cst_0 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_c : Ref sig .tc := ⟨.hbm, 35, rfl⟩
abbrev main_call0_v0 : Ref sig .tc := ⟨.hbm, 36, rfl⟩
abbrev main_call0_c : Ref sig .tc := ⟨.hbm, 37, rfl⟩
abbrev main_call0_v1 : Ref sig .tc := ⟨.hbm, 38, rfl⟩
abbrev main_call0_c_0 : Ref sig .tc := ⟨.hbm, 39, rfl⟩
abbrev main_call0_v2 : Ref sig .tc := ⟨.hbm, 40, rfl⟩
abbrev main_call0_v3 : Ref sig .tc := ⟨.hbm, 41, rfl⟩
abbrev main_call0_v4 : Ref sig .tc := ⟨.hbm, 42, rfl⟩
abbrev main_call0_c_1 : Ref sig .tc := ⟨.hbm, 43, rfl⟩
abbrev main_call0_v5 : Ref sig .tc := ⟨.hbm, 44, rfl⟩
abbrev main_call0_v6 : Ref sig .tc := ⟨.hbm, 45, rfl⟩
abbrev main_call0_c_2 : Ref sig .tc := ⟨.hbm, 46, rfl⟩
abbrev main_call0_v7 : Ref sig .tc := ⟨.hbm, 47, rfl⟩
abbrev main_call0_v8 : Ref sig .tc := ⟨.hbm, 48, rfl⟩
abbrev main_call0_c_3 : Ref sig .tc := ⟨.hbm, 49, rfl⟩
abbrev main_call0_v9 : Ref sig .tc := ⟨.hbm, 50, rfl⟩
abbrev main_call0_v10 : Ref sig .tc := ⟨.hbm, 51, rfl⟩
abbrev main_call0_v11 : Ref sig .tc := ⟨.hbm, 52, rfl⟩
abbrev main_call0_v12 : Ref sig .tc := ⟨.hbm, 53, rfl⟩
abbrev main_call0_v13 : Ref sig .tc := ⟨.hbm, 54, rfl⟩
abbrev main_call0_v14 : Ref sig .tc := ⟨.hbm, 55, rfl⟩
abbrev main_v14 : Ref sig .tc := ⟨.hbm, 56, rfl⟩
abbrev main_v15 : Ref sig .tc := ⟨.hbm, 57, rfl⟩
abbrev main_c_1 : Ref sig .tc := ⟨.hbm, 58, rfl⟩
abbrev main_call1_v0 : Ref sig .tc := ⟨.hbm, 59, rfl⟩
abbrev main_call1_c : Ref sig .tc := ⟨.hbm, 60, rfl⟩
abbrev main_call1_v1 : Ref sig .tc := ⟨.hbm, 61, rfl⟩
abbrev main_call1_c_0 : Ref sig .tc := ⟨.hbm, 62, rfl⟩
abbrev main_call1_v2 : Ref sig .tc := ⟨.hbm, 63, rfl⟩
abbrev main_call1_v3 : Ref sig .tc := ⟨.hbm, 64, rfl⟩
abbrev main_call1_v4 : Ref sig .tc := ⟨.hbm, 65, rfl⟩
abbrev main_call1_c_1 : Ref sig .tc := ⟨.hbm, 66, rfl⟩
abbrev main_call1_v5 : Ref sig .tc := ⟨.hbm, 67, rfl⟩
abbrev main_call1_v6 : Ref sig .tc := ⟨.hbm, 68, rfl⟩
abbrev main_call1_c_2 : Ref sig .tc := ⟨.hbm, 69, rfl⟩
abbrev main_call1_v7 : Ref sig .tc := ⟨.hbm, 70, rfl⟩
abbrev main_call1_v8 : Ref sig .tc := ⟨.hbm, 71, rfl⟩
abbrev main_call1_c_3 : Ref sig .tc := ⟨.hbm, 72, rfl⟩
abbrev main_call1_v9 : Ref sig .tc := ⟨.hbm, 73, rfl⟩
abbrev main_call1_v10 : Ref sig .tc := ⟨.hbm, 74, rfl⟩
abbrev main_call1_v11 : Ref sig .tc := ⟨.hbm, 75, rfl⟩
abbrev main_call1_v12 : Ref sig .tc := ⟨.hbm, 76, rfl⟩
abbrev main_call1_v13 : Ref sig .tc := ⟨.hbm, 77, rfl⟩
abbrev main_call1_v14 : Ref sig .tc := ⟨.hbm, 78, rfl⟩
abbrev main_v16 : Ref sig .tc := ⟨.hbm, 79, rfl⟩
abbrev main_v17 : Ref sig .tc := ⟨.hbm, 80, rfl⟩
abbrev main_cst_2 : Ref sig .tc := ⟨.hbm, 81, rfl⟩
abbrev main_cst_3 : Ref sig .tc := ⟨.hbm, 82, rfl⟩
abbrev main_call2_v0 : Ref sig .tc := ⟨.hbm, 83, rfl⟩
abbrev main_call2_v1 : Ref sig .tc := ⟨.hbm, 84, rfl⟩
abbrev main_v18 : Ref sig .tc := ⟨.hbm, 85, rfl⟩
abbrev main_v19 : Ref sig .tc := ⟨.hbm, 86, rfl⟩
abbrev main_v20 : Ref sig .tc := ⟨.hbm, 87, rfl⟩
abbrev main_v21 : Ref sig .tc := ⟨.hbm, 88, rfl⟩
abbrev main_c_4 : Ref sig .tc := ⟨.hbm, 89, rfl⟩
abbrev main_call3_v0 : Ref sig .tc := ⟨.hbm, 90, rfl⟩
abbrev main_call3_c : Ref sig .tc := ⟨.hbm, 91, rfl⟩
abbrev main_call3_v1 : Ref sig .tc := ⟨.hbm, 92, rfl⟩
abbrev main_call3_c_0 : Ref sig .tc := ⟨.hbm, 93, rfl⟩
abbrev main_call3_v2 : Ref sig .tc := ⟨.hbm, 94, rfl⟩
abbrev main_call3_v3 : Ref sig .tc := ⟨.hbm, 95, rfl⟩
abbrev main_call3_v4 : Ref sig .tc := ⟨.hbm, 96, rfl⟩
abbrev main_call3_c_1 : Ref sig .tc := ⟨.hbm, 97, rfl⟩
abbrev main_call3_v5 : Ref sig .tc := ⟨.hbm, 98, rfl⟩
abbrev main_call3_v6 : Ref sig .tc := ⟨.hbm, 99, rfl⟩
abbrev main_call3_c_2 : Ref sig .tc := ⟨.hbm, 100, rfl⟩
abbrev main_call3_v7 : Ref sig .tc := ⟨.hbm, 101, rfl⟩
abbrev main_call3_v8 : Ref sig .tc := ⟨.hbm, 102, rfl⟩
abbrev main_call3_c_3 : Ref sig .tc := ⟨.hbm, 103, rfl⟩
abbrev main_call3_v9 : Ref sig .tc := ⟨.hbm, 104, rfl⟩
abbrev main_call3_v10 : Ref sig .tc := ⟨.hbm, 105, rfl⟩
abbrev main_call3_v11 : Ref sig .tc := ⟨.hbm, 106, rfl⟩
abbrev main_call3_v12 : Ref sig .tc := ⟨.hbm, 107, rfl⟩
abbrev main_call3_v13 : Ref sig .tc := ⟨.hbm, 108, rfl⟩
abbrev main_call3_v14 : Ref sig .tc := ⟨.hbm, 109, rfl⟩
abbrev main_v22 : Ref sig .tc := ⟨.hbm, 110, rfl⟩
abbrev main_v23 : Ref sig .tc := ⟨.hbm, 111, rfl⟩
abbrev main_cst_5 : Ref sig .tc := ⟨.hbm, 112, rfl⟩
abbrev main_cst_6 : Ref sig .tc := ⟨.hbm, 113, rfl⟩
abbrev main_call4_v0 : Ref sig .tc := ⟨.hbm, 114, rfl⟩
abbrev main_call4_v1 : Ref sig .tc := ⟨.hbm, 115, rfl⟩
abbrev main_v24 : Ref sig .tc := ⟨.hbm, 116, rfl⟩
abbrev main_v25 : Ref sig .tc := ⟨.hbm, 117, rfl⟩
abbrev main_v26 : Ref sig .tc := ⟨.hbm, 118, rfl⟩
abbrev main_v27 : Ref sig .tc := ⟨.hbm, 119, rfl⟩
abbrev main_v28 : Ref sig .tc := ⟨.hbm, 120, rfl⟩
abbrev main_v29 : Ref sig .tc := ⟨.hbm, 121, rfl⟩
abbrev main_v30 : Ref sig .tc := ⟨.hbm, 122, rfl⟩
abbrev main_v31 : Ref sig .tc := ⟨.hbm, 123, rfl⟩
abbrev main_v32 : Ref sig .tc := ⟨.hbm, 124, rfl⟩
abbrev main_v33 : Ref sig .tc := ⟨.hbm, 125, rfl⟩
abbrev main_v34 : Ref sig .tc := ⟨.hbm, 126, rfl⟩
abbrev main_v35 : Ref sig .tc := ⟨.hbm, 127, rfl⟩
abbrev main_v36 : Ref sig .tc := ⟨.hbm, 128, rfl⟩
abbrev main_v37 : Ref sig .tc := ⟨.hbm, 129, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg17_0 : Ref sig .tc := ⟨.vmem, 19, rfl⟩
abbrev cc0_stg18_0 : Ref sig .tc := ⟨.vmem, 20, rfl⟩
abbrev cc0_stg19_0 : Ref sig .tc := ⟨.vmem, 21, rfl⟩
abbrev cc0_stg20_0 : Ref sig .tc := ⟨.vmem, 22, rfl⟩
abbrev cc0_stg21_0 : Ref sig .tc := ⟨.vmem, 23, rfl⟩
abbrev cc0_stg22_0 : Ref sig .tc := ⟨.vmem, 24, rfl⟩
abbrev cc0_stg22_1 : Ref sig .tc := ⟨.vmem, 25, rfl⟩
abbrev cc0_scratch0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem17_0 : DmaSem sig := 19
abbrev cc0_sem18_0 : DmaSem sig := 20
abbrev cc0_sem19_0 : DmaSem sig := 21
abbrev cc0_sem20_0 : DmaSem sig := 22
abbrev cc0_sem21_0 : DmaSem sig := 23
abbrev cc0_sem22_0 : DmaSem sig := 24
abbrev cc0_sem22_1 : DmaSem sig := 25

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_19 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x1152x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x9 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S144x144 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x144 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S631x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S5679x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2x512x1536 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2x1x1536 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2x512x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2x1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S2x1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S2x1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S2x512x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S2x1x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S2x512x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S2x1x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S2x1x512 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S2x1x512 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S512x512 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x512 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 2 → Memref sig .tc .vmem S128x512 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]
-- ==== KernelIdeal.lean ====
variable {F : FTy → Type} [FloatOps F] [Named F]
def κ : String → Option EReal := fun
  | "mask" => some ⊥
  | _ => none
-- ==== ReferenceIdeal.lean ====
abbrev S32x256x9 : Shape := ⟨3, ![32, 256, 9]⟩
abbrev S5679x512 : Shape := ⟨2, ![5679, 512]⟩
abbrev S512 : Shape := ⟨1, ![512]⟩
abbrev S631x512 : Shape := ⟨2, ![631, 512]⟩
abbrev S2x512x1536 : Shape := ⟨3, ![2, 512, 1536]⟩
abbrev S2x1536 : Shape := ⟨2, ![2, 1536]⟩
abbrev S2x512x512 : Shape := ⟨3, ![2, 512, 512]⟩
abbrev S2x512 : Shape := ⟨2, ![2, 512]⟩
abbrev S512x512 : Shape := ⟨2, ![512, 512]⟩
abbrev S_ : Shape := ⟨0, ![]⟩
abbrev S32x256x9x1 : Shape := ⟨4, ![32, 256, 9, 1]⟩
abbrev S32x256x9x512 : Shape := ⟨4, ![32, 256, 9, 512]⟩
abbrev S1x1x1x512 : Shape := ⟨4, ![1, 1, 1, 512]⟩
abbrev S9x631x512 : Shape := ⟨3, ![9, 631, 512]⟩
abbrev S9 : Shape := ⟨1, ![9]⟩
abbrev S1x1x9 : Shape := ⟨3, ![1, 1, 9]⟩
abbrev S32x256x9x2 : Shape := ⟨4, ![32, 256, 9, 2]⟩
abbrev S32x256x512 : Shape := ⟨3, ![32, 256, 512]⟩
abbrev S1x1x512 : Shape := ⟨3, ![1, 1, 512]⟩
abbrev S8192x9x512 : Shape := ⟨3, ![8192, 9, 512]⟩
abbrev S1x512x1536 : Shape := ⟨3, ![1, 512, 1536]⟩
abbrev S512x1536 : Shape := ⟨2, ![512, 1536]⟩
abbrev S1x1536 : Shape := ⟨2, ![1, 1536]⟩
abbrev S1536 : Shape := ⟨1, ![1536]⟩
abbrev S1x512x512 : Shape := ⟨3, ![1, 512, 512]⟩
abbrev S1x512 : Shape := ⟨2, ![1, 512]⟩
abbrev S8192x9x1536 : Shape := ⟨3, ![8192, 9, 1536]⟩
abbrev S1x1x1536 : Shape := ⟨3, ![1, 1, 1536]⟩
abbrev S8192x9x8x64 : Shape := ⟨4, ![8192, 9, 8, 64]⟩
abbrev S8192x8x9x9 : Shape := ⟨4, ![8192, 8, 9, 9]⟩
abbrev S8192x8x9 : Shape := ⟨3, ![8192, 8, 9]⟩
abbrev S8192x8x9x1 : Shape := ⟨4, ![8192, 8, 9, 1]⟩
abbrev S8192x8x64x9 : Shape := ⟨4, ![8192, 8, 64, 9]⟩
abbrev S8192x9 : Shape := ⟨2, ![8192, 9]⟩
abbrev S8192x9x1 : Shape := ⟨3, ![8192, 9, 1]⟩
abbrev S8192x1x512 : Shape := ⟨3, ![8192, 1, 512]⟩
abbrev S8192x512 : Shape := ⟨2, ![8192, 512]⟩

abbrev nBuf : Space → Nat
  | .hbm => 336
  | .vmem => 0
  | .smem => 0
  | _ => 0

abbrev hbmTy0_0 (i : Nat) : BufTy := match i % 128 with
  | 0 => ⟨S32x256x9, .i32⟩
  | 1 => ⟨S5679x512, .f32⟩
  | 2 => ⟨S512, .f32⟩
  | 3 => ⟨S631x512, .f32⟩
  | 4 => ⟨S512, .f32⟩
  | 5 => ⟨S2x512x1536, .f32⟩
  | 6 => ⟨S2x1536, .f32⟩
  | 7 => ⟨S2x512x512, .f32⟩
  | 8 => ⟨S2x512, .f32⟩
  | 9 => ⟨S2x512, .f32⟩
  | 10 => ⟨S2x512, .f32⟩
  | 11 => ⟨S2x512x512, .f32⟩
  | 12 => ⟨S2x512, .f32⟩
  | 13 => ⟨S2x512x512, .f32⟩
  | 14 => ⟨S2x512, .f32⟩
  | 15 => ⟨S2x512, .f32⟩
  | 16 => ⟨S2x512, .f32⟩
  | 17 => ⟨S512x512, .f32⟩
  | 18 => ⟨S512, .f32⟩
  | 19 => ⟨S_, .i32⟩
  | 20 => ⟨S32x256x9, .i32⟩
  | 21 => ⟨S32x256x9, .i1⟩
  | 22 => ⟨S_, .i32⟩
  | 23 => ⟨S32x256x9, .i32⟩
  | 24 => ⟨S32x256x9, .i32⟩
  | 25 => ⟨S32x256x9, .i32⟩
  | 26 => ⟨S32x256x9x1, .i32⟩
  | 27 => ⟨S32x256x9x512, .f32⟩
  | 28 => ⟨S1x1x1x512, .f32⟩
  | 29 => ⟨S32x256x9x512, .f32⟩
  | 30 => ⟨S32x256x9x512, .f32⟩
  | 31 => ⟨S9x631x512, .f32⟩
  | 32 => ⟨S9, .i32⟩
  | 33 => ⟨S1x1x9, .i32⟩
  | 34 => ⟨S_, .i32⟩
  | 35 => ⟨S1x1x9, .i32⟩
  | 36 => ⟨S1x1x9, .i1⟩
  | 37 => ⟨S_, .i32⟩
  | 38 => ⟨S1x1x9, .i32⟩
  | 39 => ⟨S1x1x9, .i32⟩
  | 40 => ⟨S1x1x9, .i32⟩
  | 41 => ⟨S_, .i32⟩
  | 42 => ⟨S32x256x9, .i32⟩
  | 43 => ⟨S32x256x9, .i1⟩
  | 44 => ⟨S_, .i32⟩
  | 45 => ⟨S32x256x9, .i32⟩
  | 46 => ⟨S32x256x9, .i32⟩
  | 47 => ⟨S32x256x9, .i32⟩
  | 48 => ⟨S32x256x9, .i32⟩
  | 49 => ⟨S32x256x9x1, .i32⟩
  | 50 => ⟨S32x256x9x1, .i32⟩
  | 51 => ⟨S32x256x9x2, .i32⟩
  | 52 => ⟨S32x256x9x512, .f32⟩
  | 53 => ⟨S_, .f32⟩
  | 54 => ⟨S32x256x512, .f32⟩
  | 55 => ⟨S1x1x512, .f32⟩
  | 56 => ⟨S32x256x512, .f32⟩
  | 57 => ⟨S32x256x512, .f32⟩
  | 58 => ⟨S8192x9x512, .f32⟩
  | 59 => ⟨S1x512x1536, .f32⟩
  | 60 => ⟨S512x1536, .f32⟩
  | 61 => ⟨S1x1536, .f32⟩
  | 62 => ⟨S1536, .f32⟩
  | 63 => ⟨S1x512x512, .f32⟩
  | 64 => ⟨S512x512, .f32⟩
  | 65 => ⟨S1x512, .f32⟩
  | 66 => ⟨S512, .f32⟩
  | 67 => ⟨S1x512, .f32⟩
  | 68 => ⟨S512, .f32⟩
  | 69 => ⟨S1x512, .f32⟩
  | 70 => ⟨S512, .f32⟩
  | 71 => ⟨S1x512x512, .f32⟩
  | 72 => ⟨S512x512, .f32⟩
  | 73 => ⟨S1x512, .f32⟩
  | 74 => ⟨S512, .f32⟩
  | 75 => ⟨S1x512x512, .f32⟩
  | 76 => ⟨S512x512, .f32⟩
  | 77 => ⟨S1x512, .f32⟩
  | 78 => ⟨S512, .f32⟩
  | 79 => ⟨S1x512, .f32⟩
  | 80 => ⟨S512, .f32⟩
  | 81 => ⟨S1x512, .f32⟩
  | 82 => ⟨S512, .f32⟩
  | 83 => ⟨S8192x9x1536, .f32⟩
  | 84 => ⟨S1x1x1536, .f32⟩
  | 85 => ⟨S8192x9x1536, .f32⟩
  | 86 => ⟨S8192x9x1536, .f32⟩
  | 87 => ⟨S8192x9x512, .f32⟩
  | 88 => ⟨S8192x9x512, .f32⟩
  | 89 => ⟨S8192x9x512, .f32⟩
  | 90 => ⟨S8192x9x8x64, .f32⟩
  | 91 => ⟨S8192x9x8x64, .f32⟩
  | 92 => ⟨S8192x9x8x64, .f32⟩
  | 93 => ⟨S8192x8x9x9, .f32⟩
  | 94 => ⟨S_, .f32⟩
  | 95 => ⟨S_, .f32⟩
  | 96 => ⟨S8192x8x9x9, .f32⟩
  | 97 => ⟨S8192x8x9x9, .f32⟩
  | 98 => ⟨S_, .f32⟩
  | 99 => ⟨S8192x8x9, .f32⟩
  | 100 => ⟨S_, .f32⟩
  | 101 => ⟨S8192x8x9, .f32⟩
  | 102 => ⟨S8192x8x9, .f32⟩
  | 103 => ⟨S8192x8x9x1, .f32⟩
  | 104 => ⟨S8192x8x9x9, .f32⟩
  | 105 => ⟨S8192x8x9x9, .f32⟩
  | 106 => ⟨S8192x8x9x9, .f32⟩
  | 107 => ⟨S_, .f32⟩
  | 108 => ⟨S8192x8x9, .f32⟩
  | 109 => ⟨S8192x8x9x1, .f32⟩
  | 110 => ⟨S8192x8x9x9, .f32⟩
  | 111 => ⟨S8192x8x9x9, .f32⟩
  | 112 => ⟨S8192x8x64x9, .f32⟩
  | 113 => ⟨S8192x9x8x64, .f32⟩
  | 114 => ⟨S8192x9x512, .f32⟩
  | 115 => ⟨S8192x9x512, .f32⟩
  | 116 => ⟨S1x1x512, .f32⟩
  | 117 => ⟨S8192x9x512, .f32⟩
  | 118 => ⟨S8192x9x512, .f32⟩
  | 119 => ⟨S8192x9x512, .f32⟩
  | 120 => ⟨S_, .f32⟩
  | 121 => ⟨S8192x9, .f32⟩
  | 122 => ⟨S8192x9x1, .f32⟩
  | 123 => ⟨S_, .f32⟩
  | 124 => ⟨S8192x9x1, .f32⟩
  | 125 => ⟨S8192x9x1, .f32⟩
  | 126 => ⟨S8192x9x512, .f32⟩
  | 127 => ⟨S8192x9x512, .f32⟩
  | _ => ⟨S32x256x9, .i32⟩

abbrev hbmTy0_1 (i : Nat) : BufTy := match i % 128 with
  | 0 => ⟨S8192x9x512, .f32⟩
  | 1 => ⟨S_, .f32⟩
  | 2 => ⟨S8192x9, .f32⟩
  | 3 => ⟨S8192x9x1, .f32⟩
  | 4 => ⟨S_, .f32⟩
  | 5 => ⟨S8192x9x1, .f32⟩
  | 6 => ⟨S8192x9x1, .f32⟩
  | 7 => ⟨S8192x9x512, .f32⟩
  | 8 => ⟨S8192x9x512, .f32⟩
  | 9 => ⟨S_, .f32⟩
  | 10 => ⟨S8192x9x1, .f32⟩
  | 11 => ⟨S8192x9x1, .f32⟩
  | 12 => ⟨S8192x9x1, .f32⟩
  | 13 => ⟨S8192x9x512, .f32⟩
  | 14 => ⟨S8192x9x512, .f32⟩
  | 15 => ⟨S1x1x512, .f32⟩
  | 16 => ⟨S8192x9x512, .f32⟩
  | 17 => ⟨S8192x9x512, .f32⟩
  | 18 => ⟨S1x1x512, .f32⟩
  | 19 => ⟨S8192x9x512, .f32⟩
  | 20 => ⟨S8192x9x512, .f32⟩
  | 21 => ⟨S8192x9x512, .f32⟩
  | 22 => ⟨S1x1x512, .f32⟩
  | 23 => ⟨S8192x9x512, .f32⟩
  | 24 => ⟨S8192x9x512, .f32⟩
  | 25 => ⟨S_, .f32⟩
  | 26 => ⟨S8192x9x512, .f32⟩
  | 27 => ⟨S8192x9x512, .f32⟩
  | 28 => ⟨S8192x9x512, .f32⟩
  | 29 => ⟨S1x1x512, .f32⟩
  | 30 => ⟨S8192x9x512, .f32⟩
  | 31 => ⟨S8192x9x512, .f32⟩
  | 32 => ⟨S8192x9x512, .f32⟩
  | 33 => ⟨S_, .f32⟩
  | 34 => ⟨S8192x9, .f32⟩
  | 35 => ⟨S8192x9x1, .f32⟩
  | 36 => ⟨S_, .f32⟩
  | 37 => ⟨S8192x9x1, .f32⟩
  | 38 => ⟨S8192x9x1, .f32⟩
  | 39 => ⟨S8192x9x512, .f32⟩
  | 40 => ⟨S8192x9x512, .f32⟩
  | 41 => ⟨S8192x9x512, .f32⟩
  | 42 => ⟨S_, .f32⟩
  | 43 => ⟨S8192x9, .f32⟩
  | 44 => ⟨S8192x9x1, .f32⟩
  | 45 => ⟨S_, .f32⟩
  | 46 => ⟨S8192x9x1, .f32⟩
  | 47 => ⟨S8192x9x1, .f32⟩
  | 48 => ⟨S8192x9x512, .f32⟩
  | 49 => ⟨S8192x9x512, .f32⟩
  | 50 => ⟨S_, .f32⟩
  | 51 => ⟨S8192x9x1, .f32⟩
  | 52 => ⟨S8192x9x1, .f32⟩
  | 53 => ⟨S8192x9x1, .f32⟩
  | 54 => ⟨S8192x9x512, .f32⟩
  | 55 => ⟨S8192x9x512, .f32⟩
  | 56 => ⟨S1x1x512, .f32⟩
  | 57 => ⟨S8192x9x512, .f32⟩
  | 58 => ⟨S8192x9x512, .f32⟩
  | 59 => ⟨S1x1x512, .f32⟩
  | 60 => ⟨S8192x9x512, .f32⟩
  | 61 => ⟨S8192x9x512, .f32⟩
  | 62 => ⟨S1x512x1536, .f32⟩
  | 63 => ⟨S512x1536, .f32⟩
  | 64 => ⟨S1x1536, .f32⟩
  | 65 => ⟨S1536, .f32⟩
  | 66 => ⟨S1x512x512, .f32⟩
  | 67 => ⟨S512x512, .f32⟩
  | 68 => ⟨S1x512, .f32⟩
  | 69 => ⟨S512, .f32⟩
  | 70 => ⟨S1x512, .f32⟩
  | 71 => ⟨S512, .f32⟩
  | 72 => ⟨S1x512, .f32⟩
  | 73 => ⟨S512, .f32⟩
  | 74 => ⟨S1x512x512, .f32⟩
  | 75 => ⟨S512x512, .f32⟩
  | 76 => ⟨S1x512, .f32⟩
  | 77 => ⟨S512, .f32⟩
  | 78 => ⟨S1x512x512, .f32⟩
  | 79 => ⟨S512x512, .f32⟩
  | 80 => ⟨S1x512, .f32⟩
  | 81 => ⟨S512, .f32⟩
  | 82 => ⟨S1x512, .f32⟩
  | 83 => ⟨S512, .f32⟩
  | 84 => ⟨S1x512, .f32⟩
  | 85 => ⟨S512, .f32⟩
  | 86 => ⟨S8192x9x1536, .f32⟩
  | 87 => ⟨S1x1x1536, .f32⟩
  | 88 => ⟨S8192x9x1536, .f32⟩
  | 89 => ⟨S8192x9x1536, .f32⟩
  | 90 => ⟨S8192x9x512, .f32⟩
  | 91 => ⟨S8192x9x512, .f32⟩
  | 92 => ⟨S8192x9x512, .f32⟩
  | 93 => ⟨S8192x9x8x64, .f32⟩
  | 94 => ⟨S8192x9x8x64, .f32⟩
  | 95 => ⟨S8192x9x8x64, .f32⟩
  | 96 => ⟨S8192x8x9x9, .f32⟩
  | 97 => ⟨S_, .f32⟩
  | 98 => ⟨S_, .f32⟩
  | 99 => ⟨S8192x8x9x9, .f32⟩
  | 100 => ⟨S8192x8x9x9, .f32⟩
  | 101 => ⟨S_, .f32⟩
  | 102 => ⟨S8192x8x9, .f32⟩
  | 103 => ⟨S_, .f32⟩
  | 104 => ⟨S8192x8x9, .f32⟩
  | 105 => ⟨S8192x8x9, .f32⟩
  | 106 => ⟨S8192x8x9x1, .f32⟩
  | 107 => ⟨S8192x8x9x9, .f32⟩
  | 108 => ⟨S8192x8x9x9, .f32⟩
  | 109 => ⟨S8192x8x9x9, .f32⟩
  | 110 => ⟨S_, .f32⟩
  | 111 => ⟨S8192x8x9, .f32⟩
  | 112 => ⟨S8192x8x9x1, .f32⟩
  | 113 => ⟨S8192x8x9x9, .f32⟩
  | 114 => ⟨S8192x8x9x9, .f32⟩
  | 115 => ⟨S8192x8x64x9, .f32⟩
  | 116 => ⟨S8192x9x8x64, .f32⟩
  | 117 => ⟨S8192x9x512, .f32⟩
  | 118 => ⟨S8192x9x512, .f32⟩
  | 119 => ⟨S1x1x512, .f32⟩
  | 120 => ⟨S8192x9x512, .f32⟩
  | 121 => ⟨S8192x9x512, .f32⟩
  | 122 => ⟨S8192x9x512, .f32⟩
  | 123 => ⟨S_, .f32⟩
  | 124 => ⟨S8192x9, .f32⟩
  | 125 => ⟨S8192x9x1, .f32⟩
  | 126 => ⟨S_, .f32⟩
  | 127 => ⟨S8192x9x1, .f32⟩
  | _ => ⟨S32x256x9, .i32⟩

abbrev hbmTy0_2 (i : Nat) : BufTy := match i % 128 with
  | 0 => ⟨S8192x9x1, .f32⟩
  | 1 => ⟨S8192x9x512, .f32⟩
  | 2 => ⟨S8192x9x512, .f32⟩
  | 3 => ⟨S8192x9x512, .f32⟩
  | 4 => ⟨S_, .f32⟩
  | 5 => ⟨S8192x9, .f32⟩
  | 6 => ⟨S8192x9x1, .f32⟩
  | 7 => ⟨S_, .f32⟩
  | 8 => ⟨S8192x9x1, .f32⟩
  | 9 => ⟨S8192x9x1, .f32⟩
  | 10 => ⟨S8192x9x512, .f32⟩
  | 11 => ⟨S8192x9x512, .f32⟩
  | 12 => ⟨S_, .f32⟩
  | 13 => ⟨S8192x9x1, .f32⟩
  | 14 => ⟨S8192x9x1, .f32⟩
  | 15 => ⟨S8192x9x1, .f32⟩
  | 16 => ⟨S8192x9x512, .f32⟩
  | 17 => ⟨S8192x9x512, .f32⟩
  | 18 => ⟨S1x1x512, .f32⟩
  | 19 => ⟨S8192x9x512, .f32⟩
  | 20 => ⟨S8192x9x512, .f32⟩
  | 21 => ⟨S1x1x512, .f32⟩
  | 22 => ⟨S8192x9x512, .f32⟩
  | 23 => ⟨S8192x9x512, .f32⟩
  | 24 => ⟨S8192x9x512, .f32⟩
  | 25 => ⟨S1x1x512, .f32⟩
  | 26 => ⟨S8192x9x512, .f32⟩
  | 27 => ⟨S8192x9x512, .f32⟩
  | 28 => ⟨S_, .f32⟩
  | 29 => ⟨S8192x9x512, .f32⟩
  | 30 => ⟨S8192x9x512, .f32⟩
  | 31 => ⟨S8192x9x512, .f32⟩
  | 32 => ⟨S1x1x512, .f32⟩
  | 33 => ⟨S8192x9x512, .f32⟩
  | 34 => ⟨S8192x9x512, .f32⟩
  | 35 => ⟨S8192x9x512, .f32⟩
  | 36 => ⟨S_, .f32⟩
  | 37 => ⟨S8192x9, .f32⟩
  | 38 => ⟨S8192x9x1, .f32⟩
  | 39 => ⟨S_, .f32⟩
  | 40 => ⟨S8192x9x1, .f32⟩
  | 41 => ⟨S8192x9x1, .f32⟩
  | 42 => ⟨S8192x9x512, .f32⟩
  | 43 => ⟨S8192x9x512, .f32⟩
  | 44 => ⟨S8192x9x512, .f32⟩
  | 45 => ⟨S_, .f32⟩
  | 46 => ⟨S8192x9, .f32⟩
  | 47 => ⟨S8192x9x1, .f32⟩
  | 48 => ⟨S_, .f32⟩
  | 49 => ⟨S8192x9x1, .f32⟩
  | 50 => ⟨S8192x9x1, .f32⟩
  | 51 => ⟨S8192x9x512, .f32⟩
  | 52 => ⟨S8192x9x512, .f32⟩
  | 53 => ⟨S_, .f32⟩
  | 54 => ⟨S8192x9x1, .f32⟩
  | 55 => ⟨S8192x9x1, .f32⟩
  | 56 => ⟨S8192x9x1, .f32⟩
  | 57 => ⟨S8192x9x512, .f32⟩
  | 58 => ⟨S8192x9x512, .f32⟩
  | 59 => ⟨S1x1x512, .f32⟩
  | 60 => ⟨S8192x9x512, .f32⟩
  | 61 => ⟨S8192x9x512, .f32⟩
  | 62 => ⟨S1x1x512, .f32⟩
  | 63 => ⟨S8192x9x512, .f32⟩
  | 64 => ⟨S8192x9x512, .f32⟩
  | 65 => ⟨S8192x1x512, .f32⟩
  | 66 => ⟨S8192x512, .f32⟩
  | 67 => ⟨S8192x512, .f32⟩
  | 68 => ⟨S1x512, .f32⟩
  | 69 => ⟨S8192x512, .f32⟩
  | 70 => ⟨S8192x512, .f32⟩
  | 71 => ⟨S32x256x512, .f32⟩
  | 72 => ⟨S_, .f32⟩
  | 73 => ⟨S32x256x512, .f32⟩
  | 74 => ⟨S32x256x512, .f32⟩
  | 75 => ⟨S_, .f32⟩
  | 76 => ⟨S32x256x512, .f32⟩
  | 77 => ⟨S32x256x512, .f32⟩
  | 78 => ⟨S32x256x512, .f32⟩
  | 79 => ⟨S8192x512, .f32⟩
  | _ => ⟨S32x256x9, .i32⟩

abbrev hbmTy (i : Nat) : BufTy := match i / 128 with
  | 0 => hbmTy0_0 i
  | 1 => hbmTy0_1 i
  | 2 => hbmTy0_2 i
  | _ => ⟨S32x256x9, .i32⟩

abbrev bufTy : (tb : Table) → Fin (tcTables nBuf tb) → BufTy
  | .hbm, ⟨i, _⟩ => hbmTy i
  | _, _ => ⟨S32x256x9, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_c : Ref sig .tc := ⟨.hbm, 19, rfl⟩
abbrev main_v0 : Ref sig .tc := ⟨.hbm, 20, rfl⟩
abbrev main_v1 : Ref sig .tc := ⟨.hbm, 21, rfl⟩
abbrev main_c_0 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_c_1 : Ref sig .tc := ⟨.hbm, 34, rfl⟩
abbrev main_v13 : Ref sig .tc := ⟨.hbm, 35, rfl⟩
abbrev main_v14 : Ref sig .tc := ⟨.hbm, 36, rfl⟩
abbrev main_c_2 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_c_3 : Ref sig .tc := ⟨.hbm, 41, rfl⟩
abbrev main_v18 : Ref sig .tc := ⟨.hbm, 42, rfl⟩
abbrev main_v19 : Ref sig .tc := ⟨.hbm, 43, rfl⟩
abbrev main_c_4 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_cst : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_cst_5 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_cst_6 : Ref sig .tc := ⟨.hbm, 98, rfl⟩
abbrev main_v71 : Ref sig .tc := ⟨.hbm, 99, rfl⟩
abbrev main_cst_7 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_cst_8 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_cst_9 : Ref sig .tc := ⟨.hbm, 120, rfl⟩
abbrev main_v90 : Ref sig .tc := ⟨.hbm, 121, rfl⟩
abbrev main_v91 : Ref sig .tc := ⟨.hbm, 122, rfl⟩
abbrev main_cst_10 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_cst_11 : Ref sig .tc := ⟨.hbm, 129, rfl⟩
abbrev main_v97 : Ref sig .tc := ⟨.hbm, 130, rfl⟩
abbrev main_v98 : Ref sig .tc := ⟨.hbm, 131, rfl⟩
abbrev main_cst_12 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_cst_13 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_call0_cst : Ref sig .tc := ⟨.hbm, 153, rfl⟩
abbrev main_call0_v0 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_cst_14 : Ref sig .tc := ⟨.hbm, 161, rfl⟩
abbrev main_v124 : Ref sig .tc := ⟨.hbm, 162, rfl⟩
abbrev main_v125 : Ref sig .tc := ⟨.hbm, 163, rfl⟩
abbrev main_cst_15 : Ref sig .tc := ⟨.hbm, 164, rfl⟩
abbrev main_v126 : Ref sig .tc := ⟨.hbm, 165, rfl⟩
abbrev main_v127 : Ref sig .tc := ⟨.hbm, 166, rfl⟩
abbrev main_v128 : Ref sig .tc := ⟨.hbm, 167, rfl⟩
abbrev main_v129 : Ref sig .tc := ⟨.hbm, 168, rfl⟩
abbrev main_v130 : Ref sig .tc := ⟨.hbm, 169, rfl⟩
abbrev main_cst_16 : Ref sig .tc := ⟨.hbm, 170, rfl⟩
abbrev main_v131 : Ref sig .tc := ⟨.hbm, 171, rfl⟩
abbrev main_v132 : Ref sig .tc := ⟨.hbm, 172, rfl⟩
abbrev main_cst_17 : Ref sig .tc := ⟨.hbm, 173, rfl⟩
abbrev main_v133 : Ref sig .tc := ⟨.hbm, 174, rfl⟩
abbrev main_v134 : Ref sig .tc := ⟨.hbm, 175, rfl⟩
abbrev main_v135 : Ref sig .tc := ⟨.hbm, 176, rfl⟩
abbrev main_v136 : Ref sig .tc := ⟨.hbm, 177, rfl⟩
abbrev main_cst_18 : Ref sig .tc := ⟨.hbm, 178, rfl⟩
abbrev main_v137 : Ref sig .tc := ⟨.hbm, 179, rfl⟩
abbrev main_v138 : Ref sig .tc := ⟨.hbm, 180, rfl⟩
abbrev main_v139 : Ref sig .tc := ⟨.hbm, 181, rfl⟩
abbrev main_v140 : Ref sig .tc := ⟨.hbm, 182, rfl⟩
abbrev main_v141 : Ref sig .tc := ⟨.hbm, 183, rfl⟩
abbrev main_v142 : Ref sig .tc := ⟨.hbm, 184, rfl⟩
abbrev main_v143 : Ref sig .tc := ⟨.hbm, 185, rfl⟩
abbrev main_v144 : Ref sig .tc := ⟨.hbm, 186, rfl⟩
abbrev main_v145 : Ref sig .tc := ⟨.hbm, 187, rfl⟩
abbrev main_v146 : Ref sig .tc := ⟨.hbm, 188, rfl⟩
abbrev main_v147 : Ref sig .tc := ⟨.hbm, 189, rfl⟩
abbrev main_v148 : Ref sig .tc := ⟨.hbm, 190, rfl⟩
abbrev main_v149 : Ref sig .tc := ⟨.hbm, 191, rfl⟩
abbrev main_v150 : Ref sig .tc := ⟨.hbm, 192, rfl⟩
abbrev main_v151 : Ref sig .tc := ⟨.hbm, 193, rfl⟩
abbrev main_v152 : Ref sig .tc := ⟨.hbm, 194, rfl⟩
abbrev main_v153 : Ref sig .tc := ⟨.hbm, 195, rfl⟩
abbrev main_v154 : Ref sig .tc := ⟨.hbm, 196, rfl⟩
abbrev main_v155 : Ref sig .tc := ⟨.hbm, 197, rfl⟩
abbrev main_v156 : Ref sig .tc := ⟨.hbm, 198, rfl⟩
abbrev main_v157 : Ref sig .tc := ⟨.hbm, 199, rfl⟩
abbrev main_v158 : Ref sig .tc := ⟨.hbm, 200, rfl⟩
abbrev main_v159 : Ref sig .tc := ⟨.hbm, 201, rfl⟩
abbrev main_v160 : Ref sig .tc := ⟨.hbm, 202, rfl⟩
abbrev main_v161 : Ref sig .tc := ⟨.hbm, 203, rfl⟩
abbrev main_v162 : Ref sig .tc := ⟨.hbm, 204, rfl⟩
abbrev main_v163 : Ref sig .tc := ⟨.hbm, 205, rfl⟩
abbrev main_v164 : Ref sig .tc := ⟨.hbm, 206, rfl⟩
abbrev main_v165 : Ref sig .tc := ⟨.hbm, 207, rfl⟩
abbrev main_v166 : Ref sig .tc := ⟨.hbm, 208, rfl⟩
abbrev main_v167 : Ref sig .tc := ⟨.hbm, 209, rfl⟩
abbrev main_v168 : Ref sig .tc := ⟨.hbm, 210, rfl⟩
abbrev main_v169 : Ref sig .tc := ⟨.hbm, 211, rfl⟩
abbrev main_v170 : Ref sig .tc := ⟨.hbm, 212, rfl⟩
abbrev main_v171 : Ref sig .tc := ⟨.hbm, 213, rfl⟩
abbrev main_v172 : Ref sig .tc := ⟨.hbm, 214, rfl⟩
abbrev main_v173 : Ref sig .tc := ⟨.hbm, 215, rfl⟩
abbrev main_v174 : Ref sig .tc := ⟨.hbm, 216, rfl⟩
abbrev main_v175 : Ref sig .tc := ⟨.hbm, 217, rfl⟩
abbrev main_v176 : Ref sig .tc := ⟨.hbm, 218, rfl⟩
abbrev main_v177 : Ref sig .tc := ⟨.hbm, 219, rfl⟩
abbrev main_v178 : Ref sig .tc := ⟨.hbm, 220, rfl⟩
abbrev main_v179 : Ref sig .tc := ⟨.hbm, 221, rfl⟩
abbrev main_v180 : Ref sig .tc := ⟨.hbm, 222, rfl⟩
abbrev main_v181 : Ref sig .tc := ⟨.hbm, 223, rfl⟩
abbrev main_v182 : Ref sig .tc := ⟨.hbm, 224, rfl⟩
abbrev main_cst_19 : Ref sig .tc := ⟨.hbm, 225, rfl⟩
abbrev main_v183 : Ref sig .tc := ⟨.hbm, 226, rfl⟩
abbrev main_v184 : Ref sig .tc := ⟨.hbm, 227, rfl⟩
abbrev main_v185 : Ref sig .tc := ⟨.hbm, 228, rfl⟩
abbrev main_cst_20 : Ref sig .tc := ⟨.hbm, 229, rfl⟩
abbrev main_v186 : Ref sig .tc := ⟨.hbm, 230, rfl⟩
abbrev main_cst_21 : Ref sig .tc := ⟨.hbm, 231, rfl⟩
abbrev main_v187 : Ref sig .tc := ⟨.hbm, 232, rfl⟩
abbrev main_v188 : Ref sig .tc := ⟨.hbm, 233, rfl⟩
abbrev main_v189 : Ref sig .tc := ⟨.hbm, 234, rfl⟩
abbrev main_v190 : Ref sig .tc := ⟨.hbm, 235, rfl⟩
abbrev main_v191 : Ref sig .tc := ⟨.hbm, 236, rfl⟩
abbrev main_v192 : Ref sig .tc := ⟨.hbm, 237, rfl⟩
abbrev main_cst_22 : Ref sig .tc := ⟨.hbm, 238, rfl⟩
abbrev main_v193 : Ref sig .tc := ⟨.hbm, 239, rfl⟩
abbrev main_v194 : Ref sig .tc := ⟨.hbm, 240, rfl⟩
abbrev main_v195 : Ref sig .tc := ⟨.hbm, 241, rfl⟩
abbrev main_v196 : Ref sig .tc := ⟨.hbm, 242, rfl⟩
abbrev main_v197 : Ref sig .tc := ⟨.hbm, 243, rfl⟩
abbrev main_v198 : Ref sig .tc := ⟨.hbm, 244, rfl⟩
abbrev main_v199 : Ref sig .tc := ⟨.hbm, 245, rfl⟩
abbrev main_v200 : Ref sig .tc := ⟨.hbm, 246, rfl⟩
abbrev main_v201 : Ref sig .tc := ⟨.hbm, 247, rfl⟩
abbrev main_v202 : Ref sig .tc := ⟨.hbm, 248, rfl⟩
abbrev main_v203 : Ref sig .tc := ⟨.hbm, 249, rfl⟩
abbrev main_v204 : Ref sig .tc := ⟨.hbm, 250, rfl⟩
abbrev main_cst_23 : Ref sig .tc := ⟨.hbm, 251, rfl⟩
abbrev main_v205 : Ref sig .tc := ⟨.hbm, 252, rfl⟩
abbrev main_v206 : Ref sig .tc := ⟨.hbm, 253, rfl⟩
abbrev main_cst_24 : Ref sig .tc := ⟨.hbm, 254, rfl⟩
abbrev main_v207 : Ref sig .tc := ⟨.hbm, 255, rfl⟩
abbrev main_v208 : Ref sig .tc := ⟨.hbm, 256, rfl⟩
abbrev main_v209 : Ref sig .tc := ⟨.hbm, 257, rfl⟩
abbrev main_v210 : Ref sig .tc := ⟨.hbm, 258, rfl⟩
abbrev main_v211 : Ref sig .tc := ⟨.hbm, 259, rfl⟩
abbrev main_cst_25 : Ref sig .tc := ⟨.hbm, 260, rfl⟩
abbrev main_v212 : Ref sig .tc := ⟨.hbm, 261, rfl⟩
abbrev main_v213 : Ref sig .tc := ⟨.hbm, 262, rfl⟩
abbrev main_cst_26 : Ref sig .tc := ⟨.hbm, 263, rfl⟩
abbrev main_v214 : Ref sig .tc := ⟨.hbm, 264, rfl⟩
abbrev main_v215 : Ref sig .tc := ⟨.hbm, 265, rfl⟩
abbrev main_v216 : Ref sig .tc := ⟨.hbm, 266, rfl⟩
abbrev main_v217 : Ref sig .tc := ⟨.hbm, 267, rfl⟩
abbrev main_cst_27 : Ref sig .tc := ⟨.hbm, 268, rfl⟩
abbrev main_v218 : Ref sig .tc := ⟨.hbm, 269, rfl⟩
abbrev main_v219 : Ref sig .tc := ⟨.hbm, 270, rfl⟩
abbrev main_v220 : Ref sig .tc := ⟨.hbm, 271, rfl⟩
abbrev main_v221 : Ref sig .tc := ⟨.hbm, 272, rfl⟩
abbrev main_v222 : Ref sig .tc := ⟨.hbm, 273, rfl⟩
abbrev main_v223 : Ref sig .tc := ⟨.hbm, 274, rfl⟩
abbrev main_v224 : Ref sig .tc := ⟨.hbm, 275, rfl⟩
abbrev main_v225 : Ref sig .tc := ⟨.hbm, 276, rfl⟩
abbrev main_v226 : Ref sig .tc := ⟨.hbm, 277, rfl⟩
abbrev main_v227 : Ref sig .tc := ⟨.hbm, 278, rfl⟩
abbrev main_v228 : Ref sig .tc := ⟨.hbm, 279, rfl⟩
abbrev main_v229 : Ref sig .tc := ⟨.hbm, 280, rfl⟩
abbrev main_v230 : Ref sig .tc := ⟨.hbm, 281, rfl⟩
abbrev main_v231 : Ref sig .tc := ⟨.hbm, 282, rfl⟩
abbrev main_v232 : Ref sig .tc := ⟨.hbm, 283, rfl⟩
abbrev main_call1_cst : Ref sig .tc := ⟨.hbm, 284, rfl⟩
abbrev main_call1_v0 : Ref sig .tc := ⟨.hbm, 285, rfl⟩
abbrev main_v233 : Ref sig .tc := ⟨.hbm, 286, rfl⟩
abbrev main_v234 : Ref sig .tc := ⟨.hbm, 287, rfl⟩
abbrev main_v235 : Ref sig .tc := ⟨.hbm, 288, rfl⟩
abbrev main_v236 : Ref sig .tc := ⟨.hbm, 289, rfl⟩
abbrev main_v237 : Ref sig .tc := ⟨.hbm, 290, rfl⟩
abbrev main_v238 : Ref sig .tc := ⟨.hbm, 291, rfl⟩
abbrev main_cst_28 : Ref sig .tc := ⟨.hbm, 292, rfl⟩
abbrev main_v239 : Ref sig .tc := ⟨.hbm, 293, rfl⟩
abbrev main_v240 : Ref sig .tc := ⟨.hbm, 294, rfl⟩
abbrev main_cst_29 : Ref sig .tc := ⟨.hbm, 295, rfl⟩
abbrev main_v241 : Ref sig .tc := ⟨.hbm, 296, rfl⟩
abbrev main_v242 : Ref sig .tc := ⟨.hbm, 297, rfl⟩
abbrev main_v243 : Ref sig .tc := ⟨.hbm, 298, rfl⟩
abbrev main_v244 : Ref sig .tc := ⟨.hbm, 299, rfl⟩
abbrev main_v245 : Ref sig .tc := ⟨.hbm, 300, rfl⟩
abbrev main_cst_30 : Ref sig .tc := ⟨.hbm, 301, rfl⟩
abbrev main_v246 : Ref sig .tc := ⟨.hbm, 302, rfl⟩
abbrev main_v247 : Ref sig .tc := ⟨.hbm, 303, rfl⟩
abbrev main_cst_31 : Ref sig .tc := ⟨.hbm, 304, rfl⟩
abbrev main_v248 : Ref sig .tc := ⟨.hbm, 305, rfl⟩
abbrev main_v249 : Ref sig .tc := ⟨.hbm, 306, rfl⟩
abbrev main_v250 : Ref sig .tc := ⟨.hbm, 307, rfl⟩
abbrev main_v251 : Ref sig .tc := ⟨.hbm, 308, rfl⟩
abbrev main_cst_32 : Ref sig .tc := ⟨.hbm, 309, rfl⟩
abbrev main_v252 : Ref sig .tc := ⟨.hbm, 310, rfl⟩
abbrev main_v253 : Ref sig .tc := ⟨.hbm, 311, rfl⟩
abbrev main_v254 : Ref sig .tc := ⟨.hbm, 312, rfl⟩
abbrev main_v255 : Ref sig .tc := ⟨.hbm, 313, rfl⟩
abbrev main_v256 : Ref sig .tc := ⟨.hbm, 314, rfl⟩
abbrev main_v257 : Ref sig .tc := ⟨.hbm, 315, rfl⟩
abbrev main_v258 : Ref sig .tc := ⟨.hbm, 316, rfl⟩
abbrev main_v259 : Ref sig .tc := ⟨.hbm, 317, rfl⟩
abbrev main_v260 : Ref sig .tc := ⟨.hbm, 318, rfl⟩
abbrev main_v261 : Ref sig .tc := ⟨.hbm, 319, rfl⟩
abbrev main_v262 : Ref sig .tc := ⟨.hbm, 320, rfl⟩
abbrev main_v263 : Ref sig .tc := ⟨.hbm, 321, rfl⟩
abbrev main_v264 : Ref sig .tc := ⟨.hbm, 322, rfl⟩
abbrev main_v265 : Ref sig .tc := ⟨.hbm, 323, rfl⟩
abbrev main_v266 : Ref sig .tc := ⟨.hbm, 324, rfl⟩
abbrev main_v267 : Ref sig .tc := ⟨.hbm, 325, rfl⟩
abbrev main_v268 : Ref sig .tc := ⟨.hbm, 326, rfl⟩
abbrev main_v269 : Ref sig .tc := ⟨.hbm, 327, rfl⟩
abbrev main_call2_cst : Ref sig .tc := ⟨.hbm, 328, rfl⟩
abbrev main_call2_v0 : Ref sig .tc := ⟨.hbm, 329, rfl⟩
abbrev main_v270 : Ref sig .tc := ⟨.hbm, 330, rfl⟩
abbrev main_cst_33 : Ref sig .tc := ⟨.hbm, 331, rfl⟩
abbrev main_v271 : Ref sig .tc := ⟨.hbm, 332, rfl⟩
abbrev main_v272 : Ref sig .tc := ⟨.hbm, 333, rfl⟩
abbrev main_v273 : Ref sig .tc := ⟨.hbm, 334, rfl⟩
abbrev main_v274 : Ref sig .tc := ⟨.hbm, 335, rfl⟩

abbrev nD : Nat := 1
abbrev τ : Topo := Topo.v7x

variable {F : FTy → Type} [FloatOps F]
-- ==== Proof.Reading.lean ====
/- Arrays read at natural-number positions: a rank-2 (or rank-3) array is described by a function of its coordinates, and the
   layout operations become shifts, quotients and remainders of those coordinates. -/
module

public import Idealize.ShloMosaic.Lib.Pipeline.ValueKit
public import Idealize.ShloMosaic.Lib.MatmulPlain
public import Idealize.ShloMosaic.Lib.ValueLayout
public import Idealize.ShloMosaic.Lib.ValueLayoutCasts

@[expose] public section

noncomputable section

namespace Cert.Reading

open Idealize.ShloMosaic
open scoped BigOperators

/-- A rank-1 array holds `f` at each coordinate. -/
def At1 {α : Type} {a : ℕ} (v : (⟨1, ![a]⟩ : Shape).Idx → α) (f : ℕ → α) : Prop := ∀ i : Fin a, v (ix1 i) = f i

/-- A rank-2 array holds `f` at each pair of coordinates. -/
def At2 {α : Type} {a b : ℕ} (v : (⟨2, ![a, b]⟩ : Shape).Idx → α) (f : ℕ → ℕ → α) : Prop :=
  ∀ (i : Fin a) (j : Fin b), v (ix2 i j) = f i j

/-- A rank-3 array holds `f` at each triple of coordinates. -/
def At3 {α : Type} {a b c : ℕ} (v : (⟨3, ![a, b, c]⟩ : Shape).Idx → α) (f : ℕ → ℕ → ℕ → α) : Prop :=
  ∀ (i : Fin a) (j : Fin b) (k : Fin c), v (ix3 i j k) = f i j k

/-- A rank-4 array holds `f` at its coordinates. -/
def At4 {α : Type} {a b c d : ℕ} (v : (⟨4, ![a, b, c, d]⟩ : Shape).Idx → α) (f : ℕ → ℕ → ℕ → ℕ → α) : Prop :=
  ∀ (i : Fin a) (j : Fin b) (k : Fin c) (l : Fin d), v (ix4 i j k l) = f i j k l

/-- Real-valued rank-2 arrays. -/
abbrev R2 {a b : ℕ} (v : (⟨2, ![a, b]⟩ : Shape).Idx → EReal) (f : ℕ → ℕ → ℝ) : Prop := At2 v fun i j => ((f i j : ℝ) : EReal)

/-- Real-valued rank-3 arrays. -/
abbrev R3 {a b c : ℕ} (v : (⟨3, ![a, b, c]⟩ : Shape).Idx → EReal) (f : ℕ → ℕ → ℕ → ℝ) : Prop := At3 v fun i j k => ((f i j k : ℝ) : EReal)

section Layout

variable {α : Type} {a b : ℕ} {v w : (⟨2, ![a, b]⟩ : Shape).Idx → α} {f g : ℕ → ℕ → α}

theorem At2.congr (h : At2 v f) (hfg : ∀ i j, i < a → j < b → f i j = g i j) : At2 v g :=
  fun i j => (h i j).trans (hfg i j i.isLt j.isLt)

/-- Two arrays that hold the same function are equal. -/
theorem At2.ext (h : At2 v f) (h' : At2 w f) : v = w := by
  funext i; rw [ValueIdx.eq_ix2 i]; exact (h _ _).trans (h' _ _).symm

/-- An equal array holds the same function. -/
theorem At2.of_eq (e : w = v) (h : At2 v f) : At2 w f := e ▸ h

theorem At3.of_eq {c : ℕ} {v w : (⟨3, ![a, b, c]⟩ : Shape).Idx → α} {f : ℕ → ℕ → ℕ → α} (e : w = v) (h : At3 v f) : At3 w f := e ▸ h

/-- A slice shifts both coordinates. -/
theorem At2.slice {a' b' p q : ℕ} (h : At2 v f) (hs : (⟨2, ![a, b]⟩ : Shape).Slices ![p, q] ⟨2, ![a', b']⟩) :
    At2 (extractStridedSlice ⟨2, ![a', b']⟩ ![p, q] v hs) (fun i j => f (p + i) (q + j)) := by
  intro i j
  have h0 : p + a' ≤ a := hs.2 0
  have h1 : q + b' ≤ b := hs.2 1
  rw [extractStridedSlice_apply _ v hs (ix2 i j) (ix2 ⟨p + i, by omega⟩ ⟨q + j, by omega⟩)
    (fun x => match x with | ⟨0, _⟩ => rfl | ⟨1, _⟩ => rfl)]
  exact h _ _

/-- Equal pieces stacked by rows: the piece is the row's quotient, its row the remainder. -/
theorem At2.concatRows {N K n m : ℕ} {p : Fin N → (⟨2, ![K, m]⟩ : Shape).Idx → α} {φ : ℕ → ℕ → ℕ → α}
    (h : ∀ k, At2 (p k) (φ k)) (hn : n = N * K)
    (hc : Shape.Concatenates ((List.ofFn fun k : Fin N => (⟨⟨2, ![K, m]⟩, p k⟩ : (s : Shape) × (s.Idx → α))).map (·.1)) ⟨2, ![n, m]⟩ 0) :
    At2 (concatenate ⟨2, ![n, m]⟩ 0 (List.ofFn fun k : Fin N => (⟨⟨2, ![K, m]⟩, p k⟩ : (s : Shape) × (s.Idx → α))) hc)
      (fun i j => φ (i / K) (i % K) j) := by
  intro i j
  have hK : 0 < K := by
    rcases Nat.eq_zero_or_pos K with h0 | h0
    · subst h0; have := i.isLt; omega
    · exact h0
  have hq : i.val / K < N := by rw [Nat.div_lt_iff_lt_mul hK]; have := i.isLt; omega
  rw [concatenate_ofFn_apply (t := ⟨2, ![n, m]⟩) (s₁ := ⟨2, ![K, m]⟩) 0 p hc rfl K rfl (ix2 i j) ⟨i.val / K, hq⟩ rfl
    (ix2 ⟨i.val % K, Nat.mod_lt _ hK⟩ j) rfl
    (fun x hx => match x with | ⟨0, _⟩ => absurd rfl hx | ⟨1, _⟩ => rfl)]
  exact h _ _ _

/-- Equal pieces stacked by columns. -/
theorem At2.concatCols {N K n m : ℕ} {p : Fin N → (⟨2, ![m, K]⟩ : Shape).Idx → α} {φ : ℕ → ℕ → ℕ → α}
    (h : ∀ k, At2 (p k) (φ k)) (hn : n = N * K)
    (hc : Shape.Concatenates ((List.ofFn fun k : Fin N => (⟨⟨2, ![m, K]⟩, p k⟩ : (s : Shape) × (s.Idx → α))).map (·.1)) ⟨2, ![m, n]⟩ 1) :
    At2 (concatenate ⟨2, ![m, n]⟩ 1 (List.ofFn fun k : Fin N => (⟨⟨2, ![m, K]⟩, p k⟩ : (s : Shape) × (s.Idx → α))) hc)
      (fun i j => φ (j / K) i (j % K)) := by
  intro i j
  have hK : 0 < K := by
    rcases Nat.eq_zero_or_pos K with h0 | h0
    · subst h0; have := j.isLt; omega
    · exact h0
  have hq : j.val / K < N := by rw [Nat.div_lt_iff_lt_mul hK]; have := j.isLt; omega
  rw [concatenate_ofFn_apply (t := ⟨2, ![m, n]⟩) (s₁ := ⟨2, ![m, K]⟩) 1 p hc rfl K rfl (ix2 i j) ⟨j.val / K, hq⟩ rfl
    (ix2 i ⟨j.val % K, Nat.mod_lt _ hK⟩) rfl
    (fun x hx => match x with | ⟨0, _⟩ => rfl | ⟨1, _⟩ => absurd rfl hx)]
  exact h _ _ _

/-- One row repeated. -/
theorem At2.rowTo {v : (⟨2, ![1, b]⟩ : Shape).Idx → α} (h : At2 v f) {n : ℕ} (hb : (⟨2, ![1, b]⟩ : Shape).Broadcasts ⟨2, ![n, b]⟩) :
    At2 (broadcastTo ⟨2, ![n, b]⟩ v hb) (fun _ j => f 0 j) := by
  intro i j
  rw [broadcastTo_apply v hb (ix2 i j) (ix2 0 j) (fun x => match x with
    | ⟨0, _⟩ => rfl
    | ⟨1, _⟩ => by
      by_cases hb1 : b = 1
      · subst hb1; simp
      · simp [hb1])]
  exact h _ _

/-- One column repeated. -/
theorem At2.colTo {v : (⟨2, ![a, 1]⟩ : Shape).Idx → α} (h : At2 v f) {n : ℕ} (hb : (⟨2, ![a, 1]⟩ : Shape).Broadcasts ⟨2, ![a, n]⟩) :
    At2 (broadcastTo ⟨2, ![a, n]⟩ v hb) (fun i _ => f i 0) := by
  intro i j
  rw [broadcastTo_apply v hb (ix2 i j) (ix2 i 0) (fun x => match x with
    | ⟨0, _⟩ => by
      by_cases hb1 : a = 1
      · subst hb1; simp
      · simp [hb1]
    | ⟨1, _⟩ => rfl)]
  exact h _ _

/-- A vector as a column. -/
theorem At1.col {v : (⟨1, ![a]⟩ : Shape).Idx → α} {f : ℕ → α} (h : At1 v f) (hs : (⟨1, ![a]⟩ : Shape).ShapeCasts ⟨2, ![a, 1]⟩) :
    At2 (shapeCast ⟨2, ![a, 1]⟩ v hs) (fun i _ => f i) := by
  intro i j
  rw [shapeCast_apply v hs (ix2 i j) (ix1 i) (by
    rw [Shape.rowMajor_val_one, Shape.rowMajor_val_two]
    have := j.isLt
    show i.val = i.val * 1 + j.val
    omega)]
  exact h _

/-- A cast to the same shape. -/
theorem At2.cast (h : At2 v f) (hs : (⟨2, ![a, b]⟩ : Shape).ShapeCasts ⟨2, ![a, b]⟩) : At2 (shapeCast ⟨2, ![a, b]⟩ v hs) f := by
  rw [shapeCast_self]; exact h

/-- A leading axis of size one dropped. -/
theorem At3.drop {v : (⟨3, ![1, a, b]⟩ : Shape).Idx → α} {f : ℕ → ℕ → ℕ → α} (h : At3 v f)
    (hs : (⟨3, ![1, a, b]⟩ : Shape).ShapeCasts ⟨2, ![a, b]⟩) : At2 (shapeCast ⟨2, ![a, b]⟩ v hs) (f 0) := by
  intro i j
  rw [shapeCast_apply v hs (ix2 i j) (ix3 0 i j) (by
    rw [Shape.rowMajor_val_three, Shape.rowMajor_val_two]
    show (0 * a + i.val) * b + j.val = i.val * b + j.val
    rw [Nat.zero_mul, Nat.zero_add])]
  exact h _ _ _

end Layout

end Cert.Reading

end
-- ==== Proof.RealOps.lean ====
/- The float operations at the extended reals on arrays whose entries are real: sums, products, matrix products, row
   reductions, and the softmax of a row in which some entries may be masked to minus infinity. -/
module

public import proofs.«01_k».proof.Proof.Reading

@[expose] public section

noncomputable section

namespace Cert.Reading

open Idealize.ShloMosaic
open scoped BigOperators

/-! ## Extended reals that are real -/

theorem coe_sum {n : ℕ} (f : ℕ → ℝ) : ∑ k : Fin n, ((f k : ℝ) : EReal) = ((∑ k ∈ Finset.range n, f k : ℝ) : EReal) := by
  rw [Finset.sum_range]
  exact (map_sum (⟨⟨fun x : ℝ => (x : EReal), EReal.coe_zero⟩, fun x y => EReal.coe_add x y⟩ : ℝ →+ EReal) _ _).symm

theorem div_coe_coe (x : ℝ) {y : ℝ} (h : y ≠ 0) : Ideal.div (x : EReal) (y : EReal) = ((x / y : ℝ) : EReal) := by
  rw [Ideal.div_coe h, ← EReal.coe_mul, mul_one_div]

theorem rsqrt_coe {x : ℝ} (h : 0 < x) : Ideal.rsqrt (x : EReal) = (((Real.sqrt x)⁻¹ : ℝ) : EReal) := by
  show (if x < 0 then ⊥ else if x = 0 then ⊤ else (((Real.sqrt x)⁻¹ : ℝ) : EReal)) = _
  rw [if_neg (not_lt.mpr h.le), if_neg h.ne']

theorem sqrt_coe {x : ℝ} (h : 0 ≤ x) : Ideal.sqrt (x : EReal) = ((Real.sqrt x : ℝ) : EReal) := by
  show (if x < 0 then ⊥ else ((Real.sqrt x : ℝ) : EReal)) = _
  rw [if_neg (not_lt.mpr h)]

theorem coe_max' (x y : ℝ) : max (x : EReal) (y : EReal) = ((max x y : ℝ) : EReal) :=
  (EReal.coe_strictMono.monotone.map_max (a := x) (b := y)).symm

/-! ## A row of scores, some masked -/

/-- The maximum of a row, from minus infinity, in which the entries off `P` are masked and some entry is on it, is real. -/
theorem fold_max_real {n : ℕ} (w : Fin n → EReal) (P : Fin n → Prop) [DecidablePred P] (a : Fin n → ℝ)
    (hw : ∀ k, w k = if P k then ((a k : ℝ) : EReal) else ⊥) (k₀ : Fin n) (h₀ : P k₀) :
    ∃ M : ℝ, (Finset.univ : Finset (Fin n)).fold max ⊥ w = (M : EReal) := by
  have hbot : (Finset.univ : Finset (Fin n)).fold max ⊥ w ≠ ⊥ := by
    intro h
    have hle : w k₀ ≤ (Finset.univ : Finset (Fin n)).fold max ⊥ w :=
      Finset.le_fold_max _ |>.mpr (Or.inr ⟨k₀, Finset.mem_univ _, le_refl _⟩)
    rw [h, hw k₀, if_pos h₀] at hle
    exact absurd (le_bot_iff.mp hle) (EReal.coe_ne_bot _)
  have htop : (Finset.univ : Finset (Fin n)).fold max ⊥ w ≠ ⊤ := by
    apply ne_of_lt
    rw [Finset.fold_max_lt]
    refine ⟨bot_lt_top, fun k _ => ?_⟩
    rw [hw k]
    split
    · exact EReal.coe_lt_top _
    · exact bot_lt_top
  exact ⟨_, (EReal.coe_toReal htop hbot).symm⟩

/-- The softmax of such a row: masked entries are zero, the others the exponentials over their sum. -/
theorem softmax_masked {n : ℕ} (w : Fin n → EReal) (P : ℕ → Prop) [DecidablePred P] (a : ℕ → ℝ)
    (hw : ∀ k : Fin n, w k = if P k then ((a k : ℝ) : EReal) else ⊥) (k₀ : Fin n) (h₀ : P k₀) (j : Fin n) :
    Ideal.div (Ideal.exp (w j - (Finset.univ : Finset (Fin n)).fold max ⊥ w))
        (∑ k : Fin n, Ideal.exp (w k - (Finset.univ : Finset (Fin n)).fold max ⊥ w))
      = (((if P j then Real.exp (a j) else 0) / (∑ k ∈ Finset.range n, if P k then Real.exp (a k) else 0) : ℝ) : EReal) := by
  obtain ⟨M, hM⟩ := fold_max_real w (fun k => P k) (fun k => a k) hw k₀ h₀
  rw [hM]
  have he : ∀ k : Fin n, Ideal.exp (w k - (M : EReal)) = (((if P k then Real.exp (a k) else 0) * Real.exp (-M) : ℝ) : EReal) := by
    intro k
    rw [hw k]
    by_cases hk : P k
    · rw [if_pos hk, if_pos hk, ← EReal.coe_sub]
      show ((Real.exp (a k - M) : ℝ) : EReal) = _
      rw [sub_eq_add_neg, Real.exp_add]
    · rw [if_neg hk, if_neg hk, zero_mul]
      rw [show (⊥ : EReal) - (M : EReal) = ⊥ from EReal.bot_sub _]
      rfl
  rw [Finset.sum_congr rfl fun k _ => he k, he j,
    coe_sum (n := n) fun k => (if P k then Real.exp (a k) else 0) * Real.exp (-M), ← Finset.sum_mul]
  have hpos : 0 < ∑ k ∈ Finset.range n, (if P k then Real.exp (a k) else 0) := by
    refine Finset.sum_pos' (fun k _ => ?_) ⟨k₀, Finset.mem_range.mpr k₀.isLt, ?_⟩
    · split
      · exact (Real.exp_pos _).le
      · exact le_refl _
    · rw [if_pos h₀]; exact Real.exp_pos _
  rw [div_coe_coe _ (mul_ne_zero hpos.ne' (Real.exp_pos _).ne'), mul_div_mul_right _ _ (Real.exp_pos _).ne']

/-! ## Operations on real arrays -/

section Ops

variable {a b : ℕ} {v w : (⟨2, ![a, b]⟩ : Shape).Idx → EReal} {f g : ℕ → ℕ → ℝ}

theorem R2.add (hv : R2 v f) (hw : R2 w g) : R2 (addf (F := Ideal) (φ := .f32) v w) (fun i j => f i j + g i j) :=
  fun i j => (congrArg₂ (fun x y : EReal => x + y) (hv i j) (hw i j)).trans (EReal.coe_add _ _).symm

theorem R2.sub (hv : R2 v f) (hw : R2 w g) : R2 (subf (F := Ideal) (φ := .f32) v w) (fun i j => f i j - g i j) :=
  fun i j => (congrArg₂ (fun x y : EReal => x - y) (hv i j) (hw i j)).trans (EReal.coe_sub _ _).symm

theorem R2.mul (hv : R2 v f) (hw : R2 w g) : R2 (mulf (F := Ideal) (φ := .f32) v w) (fun i j => f i j * g i j) :=
  fun i j => (congrArg₂ (fun x y : EReal => x * y) (hv i j) (hw i j)).trans (EReal.coe_mul _ _).symm

theorem R2.div (hv : R2 v f) (hw : R2 w g) (h : ∀ i j, i < a → j < b → g i j ≠ 0) :
    R2 (divf (F := Ideal) (φ := .f32) v w) (fun i j => f i j / g i j) :=
  fun i j => by
    show Ideal.div (v (ix2 i j)) (w (ix2 i j)) = _
    rw [hv i j, hw i j]; exact div_coe_coe _ (h i j i.isLt j.isLt)

theorem R2.maximum (hv : R2 v f) (hw : R2 w g) : R2 (maximumf (F := Ideal) (φ := .f32) v w) (fun i j => max (f i j) (g i j)) :=
  fun i j => by
    show max (v (ix2 i j)) (w (ix2 i j)) = _
    rw [hv i j, hw i j]; exact coe_max' _ _

theorem R2.rsqrt (hv : R2 v f) (h : ∀ i j, i < a → j < b → 0 < f i j) :
    R2 (Idealize.ShloMosaic.rsqrt (F := Ideal) (φ := .f32) v) (fun i j => (Real.sqrt (f i j))⁻¹) :=
  fun i j => by
    show Ideal.rsqrt (v (ix2 i j)) = _
    rw [hv i j]; exact rsqrt_coe (h i j i.isLt j.isLt)

/-- A splat of a real. -/
theorem R2.splat {x : EReal} {r : ℝ} (h : x = (r : EReal)) : R2 (broadcast (⟨2, ![a, b]⟩ : Shape) x) (fun _ _ => r) := fun _ _ => h

theorem vix2 {m n : ℕ} (i : Fin m) (j : Fin n) : ValueIdx.ix2 i j = ix2 i j := by
  funext x; match x with | ⟨0, _⟩ => rfl | ⟨1, _⟩ => rfl

theorem dot_real {K : ℕ} (f g : ℕ → ℝ) :
    (0 : EReal) + ∑ k : Fin K, ((f k : ℝ) : EReal) * ((g k : ℝ) : EReal) = ((∑ k ∈ Finset.range K, f k * g k : ℝ) : EReal) := by
  rw [zero_add, ← coe_sum]; exact Finset.sum_congr rfl fun k _ => (EReal.coe_mul _ _).symm

/-- A plain matrix product into a zero accumulator. -/
theorem R2.matmul {M K N : ℕ} {v : (⟨2, ![M, K]⟩ : Shape).Idx → EReal} {w : (⟨2, ![K, N]⟩ : Shape).Idx → EReal}
    (hv : R2 v f) (hw : R2 w g) :
    R2 (Idealize.ShloMosaic.matmul (F := Ideal) (φ₁ := .f32) (φ₂ := .f32) (DotDims.plain M K N) none v w (constant ⟨2, ![M, N]⟩ .f32 0x00000000#32))
      (fun i j => ∑ k ∈ Finset.range K, f i k * g k j) := by
  intro i j
  refine (congrArg _ (vix2 i j).symm).trans ((Ideal.matmul_plain_apply none v w _ i j).trans ?_)
  show Ideal.ofBits .f32 0x00000000#32 + _ = _
  rw [Ideal.ofBits_zero_f32]
  refine Eq.trans ?_ (dot_real (fun k => f i k) fun k => g k j)
  exact congrArg _ (Finset.sum_congr rfl fun k _ => by rw [vix2, vix2, hv i k, hw k j])

/-- A matrix product with the right operand transposed, into a zero accumulator. -/
theorem R2.matmulT {M K N : ℕ} {v : (⟨2, ![M, K]⟩ : Shape).Idx → EReal} {w : (⟨2, ![N, K]⟩ : Shape).Idx → EReal}
    (hv : R2 v f) (hw : R2 w g) :
    R2 (Idealize.ShloMosaic.matmul (F := Ideal) (φ₁ := .f32) (φ₂ := .f32) (DotDims.transposedRhs M K N) none v w (constant ⟨2, ![M, N]⟩ .f32 0x00000000#32))
      (fun i j => ∑ k ∈ Finset.range K, f i k * g j k) := by
  intro i j
  refine (congrArg _ (vix2 i j).symm).trans ((Ideal.matmul_transposedRhs_apply none v w _ i j).trans ?_)
  show Ideal.ofBits .f32 0x00000000#32 + _ = _
  rw [Ideal.ofBits_zero_f32]
  refine Eq.trans ?_ (dot_real (fun k => f i k) fun k => g j k)
  exact congrArg _ (Finset.sum_congr rfl fun k _ => by rw [vix2, vix2, hv i k, hw j k])

/-- The row sums of an array. -/
theorem R2.rowSum (hv : R2 v f) (hr : (⟨2, ![a, b]⟩ : Shape).Reduces [1] ⟨1, ![a]⟩) (hφ : FKind.Formats .f32)
    (hacc : (0x00000000#32 : BitVec 32) = FKind.add.neutral .f32 hφ) :
    At1 (multiReduction (F := Ideal) (φ := .f32) .add [1] ⟨1, ![a]⟩ v 0x00000000#32 hr hφ hacc)
      (fun i => ((∑ k ∈ Finset.range b, f i k : ℝ) : EReal)) := by
  intro i
  rw [Ideal.multiReduction_add_single]
  refine Eq.trans ?_ (coe_sum fun k => f i k)
  refine Finset.sum_congr rfl fun k _ => ?_
  refine Eq.trans ?_ (hv i k)
  refine congrArg v (funext fun x => Fin.ext ?_)
  match x with
  | ⟨0, _⟩ => rfl
  | ⟨1, _⟩ => rfl

end Ops

end Cert.Reading

end
-- ==== Proof.Spec.lean ====
/- The mathematics of one encoder layer over the reals, for one token: nine positions, 512 features, eight heads of 64, as
   functions of natural numbers; and the identities between the two ways of computing it. -/
module

public import Mathlib.Analysis.SpecialFunctions.Pow.Real

@[expose] public section

noncomputable section

namespace Cert.Spec

open scoped BigOperators

/-- A sum over the first `n` naturals. -/
abbrev sumTo (n : ℕ) (f : ℕ → ℝ) : ℝ := ∑ k ∈ Finset.range n, f k

/-- A row times a matrix, plus a bias. -/
def lin (W : ℕ → ℕ → ℝ) (b : ℕ → ℝ) (x : ℕ → ℝ) (j : ℕ) : ℝ := sumTo 512 (fun k => x k * W k j) + b j

/-- The score of query position `s` against key position `t` in head `h`. -/
def score (q k : ℕ → ℕ → ℝ) (h s t : ℕ) : ℝ := sumTo 64 fun e => q s (64 * h + e) * k t (64 * h + e)

/-- The softmax over the nine key positions. -/
def prob (q k : ℕ → ℕ → ℝ) (h s t : ℕ) : ℝ := Real.exp (score q k h s t) / sumTo 9 fun u => Real.exp (score q k h s u)

/-- The context: the values averaged under the softmax of the head the column belongs to. -/
def ctx (q k v : ℕ → ℕ → ℝ) (s d : ℕ) : ℝ := sumTo 9 fun t => prob q k (d / 64) s t * v t d

def mean (x : ℕ → ℝ) : ℝ := sumTo 512 x / 512

def var (x : ℕ → ℝ) : ℝ := sumTo 512 (fun k => (x k - mean x) * (x k - mean x)) / 512

/-- The small constant of the layer normalisation, the single-precision number of the program: 10995116 over 2 to the 40th. -/
def eps : ℝ := 10995116 / 2 ^ 40

theorem eps_pos : 0 < eps := by unfold eps; positivity

/-- The layer normalisation of one row. -/
def ln (g b x : ℕ → ℝ) (j : ℕ) : ℝ := (x j - mean x) / Real.sqrt (var x + eps) * g j + b j

/-- The parameters of one layer. -/
structure Params where
  Wqkv : ℕ → ℕ → ℝ
  bqkv : ℕ → ℝ
  Wo : ℕ → ℕ → ℝ
  bo : ℕ → ℝ
  g1 : ℕ → ℝ
  b1 : ℕ → ℝ
  W1 : ℕ → ℕ → ℝ
  c1 : ℕ → ℝ
  W2 : ℕ → ℕ → ℝ
  c2 : ℕ → ℝ
  g2 : ℕ → ℝ
  b2 : ℕ → ℝ

variable (P : Params)

/-- The projections of all positions: the query divided by eight, the key, the value. -/
def qOf (X : ℕ → ℕ → ℝ) (s j : ℕ) : ℝ := lin P.Wqkv P.bqkv (X s) j / 8
def kOf (X : ℕ → ℕ → ℝ) (s j : ℕ) : ℝ := lin P.Wqkv P.bqkv (X s) (512 + j)
def vOf (X : ℕ → ℕ → ℝ) (s j : ℕ) : ℝ := lin P.Wqkv P.bqkv (X s) (1024 + j)

/-- The attention sublayer with its residual. -/
def attn (X : ℕ → ℕ → ℝ) (s d : ℕ) : ℝ := X s d + lin P.Wo P.bo (ctx (qOf P X) (kOf P X) (vOf P X) s) d

/-- The feed-forward sublayer with its residual, on one row. -/
def ff (y : ℕ → ℝ) (d : ℕ) : ℝ := y d + lin P.W2 P.c2 (fun k => max (lin P.W1 P.c1 y k) 0) d

/-- What follows the attention, on one row. -/
def post (a : ℕ → ℝ) : ℕ → ℝ := ln P.g2 P.b2 (ff P (ln P.g1 P.b1 a))

/-- One encoder layer. -/
def layer (X : ℕ → ℕ → ℝ) (s : ℕ) : ℕ → ℝ := post P (attn P X s)

/-- A linear map whose columns are scaled. -/
theorem lin_scaled (W : ℕ → ℕ → ℝ) (b s : ℕ → ℝ) (x : ℕ → ℝ) (j : ℕ) :
    lin (fun k j => W k j * s j) (fun j => b j * s j) x j = lin W b x j * s j := by
  unfold lin
  rw [add_mul, Finset.sum_mul]
  simp only [mul_assoc]

/-- A context depends on the query row and on the nine rows of keys and values. -/
theorem ctx_congr {q q' k k' v v' : ℕ → ℕ → ℝ} {s s' : ℕ} (d : ℕ) (hq : ∀ j, q s j = q' s' j)
    (hk : ∀ t, t < 9 → ∀ j, k t j = k' t j) (hv : ∀ t, t < 9 → v t d = v' t d) : ctx q k v s d = ctx q' k' v' s' d := by
  have hs : ∀ h t, t < 9 → score q k h s t = score q' k' h s' t := fun h t ht =>
    Finset.sum_congr rfl fun e _ => by
      show q s _ * k t _ = q' s' _ * k' t _
      rw [hq, hk t ht]
  refine Finset.sum_congr rfl fun t ht => ?_
  have ht := Finset.mem_range.mp ht
  show prob q k _ s t * v t d = prob q' k' _ s' t * v' t d
  unfold prob
  rw [hs _ t ht, hv t ht]
  refine congrArg (fun z => Real.exp (score q' k' (d / 64) s' t) / z * v' t d) (Finset.sum_congr rfl fun u hu => ?_)
  exact congrArg Real.exp (hs _ u (Finset.mem_range.mp hu))

/-- The scale folded into the query columns of the projections. -/
def qsc (j : ℕ) : ℝ := if j < 512 then 1 / 8 else 1

/-! ## The variance in one pass -/

theorem var_nonneg (x : ℕ → ℝ) : 0 ≤ var x :=
  div_nonneg (Finset.sum_nonneg fun k _ => mul_self_nonneg _) (by norm_num)

/-- The mean of the squares less the square of the mean is the variance. -/
theorem var_one_pass (x : ℕ → ℝ) : sumTo 512 (fun k => x k * x k) / 512 - mean x * mean x = var x := by
  have h : ∀ k, (x k - mean x) * (x k - mean x) = x k * x k - 2 * mean x * x k + mean x * mean x := fun k => by ring
  have hm : sumTo 512 x = 512 * mean x := by unfold mean; ring
  unfold var
  rw [show sumTo 512 (fun k => (x k - mean x) * (x k - mean x))
      = sumTo 512 (fun k => x k * x k) - 2 * mean x * sumTo 512 x + 512 * (mean x * mean x) by
    simp only [sumTo, h, Finset.sum_add_distrib, Finset.sum_sub_distrib, ← Finset.mul_sum, Finset.sum_const, Finset.card_range,
      nsmul_eq_mul]
    push_cast; ring, hm]
  ring

/-- The normalisation with the scale folded into the gain and the mean into the bias. -/
theorem ln_one_pass (g b x : ℕ → ℝ) (j : ℕ) :
    x j * ((Real.sqrt (sumTo 512 (fun k => x k * x k) / 512 - sumTo 512 x / 512 * (sumTo 512 x / 512) + eps))⁻¹ * g j)
      + (b j - sumTo 512 x / 512 * (Real.sqrt (sumTo 512 (fun k => x k * x k) / 512 - sumTo 512 x / 512 * (sumTo 512 x / 512) + eps))⁻¹ * g j)
      = ln g b x j := by
  rw [show sumTo 512 x / 512 = mean x from rfl, var_one_pass]
  unfold ln
  rw [div_eq_mul_inv]; ring

/-! ## Sums over a group of rows in which only one token's rows count -/

/-- Of 144 rows, ordered by position and then by token, those of token `g` are nine. -/
theorem sum_masked (f : ℕ → ℝ) {g : ℕ} (hg : g < 16) :
    sumTo 144 (fun k => if k % 16 = g then f k else 0) = sumTo 9 fun t => f (16 * t + g) := by
  have hone : ∀ t, ∑ r ∈ Finset.range 16, (if (16 * t + r) % 16 = g then f (16 * t + r) else 0) = f (16 * t + g) := by
    intro t
    rw [Finset.sum_eq_single_of_mem g (Finset.mem_range.mpr hg)]
    · rw [if_pos (by omega)]
    · intro r hr hne
      rw [if_neg]
      have := Finset.mem_range.mp hr
      omega
  have hsplit : ∀ (F : ℕ → ℝ) (n : ℕ), ∑ k ∈ Finset.range (16 * n), F k = ∑ t ∈ Finset.range n, ∑ r ∈ Finset.range 16, F (16 * t + r) := by
    intro F n
    induction n with
    | zero => simp
    | succ n ih =>
      rw [Nat.mul_succ, Finset.sum_range_add, ih]
      exact (Finset.sum_range_succ (fun t => ∑ r ∈ Finset.range 16, F (16 * t + r)) n).symm
  show ∑ k ∈ Finset.range (16 * 9), _ = _
  rw [hsplit]
  exact Finset.sum_congr rfl fun t _ => hone t

/-- Row of position `s` of token `t` in a block of 128 tokens: groups of 16 tokens, positions within a group, tokens within a position. -/
def row (t s : ℕ) : ℕ := 144 * (t / 16) + (16 * s + t % 16)

/-- The token and the position of a row. -/
def tok (m r : ℕ) : ℕ := 16 * (r / m) + r % 16
def pos (r : ℕ) : ℕ := r % 144 / 16

theorem tok_row {t s : ℕ} (hs : s < 9) : tok 144 (row t s) = t := by unfold tok row; omega
theorem pos_row {t s : ℕ} (hs : s < 9) : pos (row t s) = s := by unfold pos row; omega

/-- The masked softmax of a row of scores, times the values, is the context of the token the row belongs to. -/
theorem ctx_masked (Q K V : ℕ → ℕ → ℝ) (t s d : ℕ) (A : ℕ → ℝ) (B : ℕ → ℝ)
    (hA : ∀ u, A (16 * u + t % 16) = score (fun s => Q (row t s)) (fun s => K (row t s)) (d / 64) s u)
    (hB : ∀ u, B (16 * u + t % 16) = V (row t u) d) :
    (sumTo 144 fun j => (if j % 16 = t % 16 then Real.exp (A j) else 0) / (sumTo 144 fun k => if k % 16 = t % 16 then Real.exp (A k) else 0) * B j)
      = ctx (fun s => Q (row t s)) (fun s => K (row t s)) (fun s => V (row t s)) s d := by
  have hg : t % 16 < 16 := Nat.mod_lt _ (by norm_num)
  rw [sum_masked (fun k => Real.exp (A k)) hg]
  have : ∀ j, (if j % 16 = t % 16 then Real.exp (A j) else 0) / (sumTo 9 fun u => Real.exp (A (16 * u + t % 16))) * B j
      = if j % 16 = t % 16 then Real.exp (A j) / (sumTo 9 fun u => Real.exp (A (16 * u + t % 16))) * B j else 0 := by
    intro j; split
    · rfl
    · rw [zero_div, zero_mul]
  simp only [this]
  rw [sum_masked (fun j => Real.exp (A j) / (sumTo 9 fun u => Real.exp (A (16 * u + t % 16))) * B j) hg]
  unfold ctx prob
  refine Finset.sum_congr rfl fun u _ => ?_
  simp only [hA, hB]

end Cert.Spec

end
-- ==== Proof.Stages.lean ====
/- The stages of the kernel's body as functions of whole blocks, generic in the number of rows, and what each holds when the
   arrays it is given hold real functions: layer normalisation, linear maps, the masked softmax, the attention of groups. -/
module

public import proofs.«01_k».proof.Proof.RealOps
public import proofs.«01_k».proof.Proof.Spec

@[expose] public section

noncomputable section

namespace Cert.Stages

open Idealize.ShloMosaic Cert.Reading Cert.Spec
open scoped BigOperators

/-- A rank-2 array of extended reals. -/
abbrev Mat (a b : ℕ) : Type := FVec Ideal (⟨2, ![a, b]⟩ : Shape) .f32

/-! ## Shape facts at any size -/

theorem slices2 {a b a' b' p q : ℕ} (h0 : p + a' ≤ a) (h1 : q + b' ≤ b) : (⟨2, ![a, b]⟩ : Shape).Slices ![p, q] ⟨2, ![a', b']⟩ :=
  ⟨rfl, fun x => match x with | ⟨0, _⟩ => h0 | ⟨1, _⟩ => h1⟩

theorem bcRow (n b : ℕ) : (⟨2, ![1, b]⟩ : Shape).Broadcasts ⟨2, ![n, b]⟩ :=
  ⟨le_refl _, fun x => match x with | ⟨0, _⟩ => Or.inl rfl | ⟨1, _⟩ => Or.inr fun _ => rfl⟩

theorem bcCol (n b : ℕ) : (⟨2, ![n, 1]⟩ : Shape).Broadcasts ⟨2, ![n, b]⟩ :=
  ⟨le_refl _, fun x => match x with | ⟨0, _⟩ => Or.inr fun _ => rfl | ⟨1, _⟩ => Or.inl rfl⟩

theorem redRow (n b : ℕ) : (⟨2, ![n, b]⟩ : Shape).Reduces [1] ⟨1, ![n]⟩ :=
  ⟨rfl, Nat.one_pos, fun x => match x with | ⟨0, _⟩ => rfl⟩

theorem castCol (n : ℕ) : (⟨1, ![n]⟩ : Shape).ShapeCasts ⟨2, ![n, 1]⟩ := by
  simp [Shape.ShapeCasts, Shape.numel]

/-! ## Constants -/

theorem ofBits_512 : Ideal.ofBits .f32 0x44000000#32 = ((512 : ℝ) : EReal) := by
  simp [Ideal.ofBits, Ideal.ieee, -EReal.coe_mul]; norm_num

theorem ofBits_eps : Ideal.ofBits .f32 0x3727C5AC#32 = ((eps : ℝ) : EReal) := by
  unfold eps
  simp [Ideal.ofBits, Ideal.ieee, -EReal.coe_mul]; norm_num

/-! ## Row-wise stages -/

section Rows

variable (M : ℕ)

/-- A matrix product into zero. -/
def mmK (K N : ℕ) (x : Mat M K) (W : Mat K N) : Mat M N :=
  matmul (DotDims.plain M K N) none x W (constant ⟨2, ![M, N]⟩ .f32 0x00000000#32)

/-- A matrix product into zero plus a bias row. -/
def linK (N : ℕ) (x : Mat M 512) (W : Mat 512 N) (b : Mat 1 N) : Mat M N :=
  addf (matmul (DotDims.plain M 512 N) none x W (constant ⟨2, ![M, N]⟩ .f32 0x00000000#32)) (broadcastTo ⟨2, ![M, N]⟩ b (bcRow M N))

/-- The row sums as a column. -/
def sumK (N : ℕ) (x : Mat M N) : Mat M 1 :=
  shapeCast ⟨2, ![M, 1]⟩ (multiReduction (F := Ideal) (φ := .f32) .add [1] ⟨1, ![M]⟩ x 0x00000000#32 (redRow M N) (.inl rfl) rfl) (castCol M)

def meanK (x : Mat M 512) : Mat M 1 := divf (sumK M 512 x) (broadcast ⟨2, ![M, 1]⟩ (Scalar.ofBits (F := Ideal) .f32 0x44000000#32))

def rsK (x : Mat M 512) : Mat M 1 :=
  rsqrt (addf (subf (meanK M (mulf x x)) (mulf (meanK M x) (meanK M x))) (broadcast ⟨2, ![M, 1]⟩ (Scalar.ofBits (F := Ideal) .f32 0x3727C5AC#32)))

/-- The layer normalisation as the kernel takes it: one pass, the scale folded into the gain, the mean into the bias. -/
def lnK (x : Mat M 512) (g b : Mat 1 512) : Mat M 512 :=
  addf (mulf x (mulf (broadcastTo ⟨2, ![M, 512]⟩ (rsK M x) (bcCol M 512)) (broadcastTo ⟨2, ![M, 512]⟩ g (bcRow M 512))))
    (subf (broadcastTo ⟨2, ![M, 512]⟩ b (bcRow M 512))
      (mulf (broadcastTo ⟨2, ![M, 512]⟩ (mulf (meanK M x) (rsK M x)) (bcCol M 512)) (broadcastTo ⟨2, ![M, 512]⟩ g (bcRow M 512))))

/-- The feed-forward network with its residual. -/
def ffK (y : Mat M 512) (W1 : Mat 512 512) (c1 : Mat 1 512) (W2 : Mat 512 512) (c2 : Mat 1 512) : Mat M 512 :=
  addf y (linK M 512 (maximumf (linK M 512 y W1 c1) (broadcast ⟨2, ![M, 512]⟩ (Scalar.ofBits (F := Ideal) .f32 0x00000000#32))) W2 c2)

variable {M} {x : Mat M 512} {f : ℕ → ℕ → ℝ}

theorem linK_reads {N : ℕ} {W : Mat 512 N} {b : Mat 1 N} {w c : ℕ → ℕ → ℝ} (hx : R2 x f) (hW : R2 W w) (hb : R2 b c) :
    R2 (linK M N x W b) (fun i j => lin w (c 0) (f i) j) :=
  (hx.matmul hW).add (hb.rowTo (bcRow M N))

/-- A residual, a matrix product and a bias added in that order. -/
theorem resK_reads {x c : Mat M 512} {g : ℕ → ℕ → ℝ} {W : Mat 512 512} {b : Mat 1 512} {w β : ℕ → ℕ → ℝ} (hx : R2 x f) (hc : R2 c g)
    (hW : R2 W w) (hb : R2 b β) :
    R2 (addf (addf x (mmK M 512 512 c W)) (broadcastTo ⟨2, ![M, 512]⟩ b (bcRow M 512))) (fun i j => f i j + lin w (β 0) (g i) j) :=
  At2.congr ((hx.add (hc.matmul hW)).add (hb.rowTo (bcRow M 512) : R2 _ fun _ j => β 0 j)) fun i j _ _ => congrArg _ (add_assoc _ _ _)

theorem sumK_reads {N : ℕ} {x : Mat M N} (hx : R2 x f) : R2 (sumK M N x) (fun i _ => sumTo N (f i)) :=
  (hx.rowSum (redRow M N) (.inl rfl) rfl).col (castCol M)

theorem meanK_reads (hx : R2 x f) : R2 (meanK M x) (fun i _ => sumTo 512 (f i) / 512) :=
  R2.div (sumK_reads hx) (R2.splat ofBits_512) fun _ _ _ _ => by norm_num

theorem rsK_reads (hx : R2 x f) : R2 (rsK M x) (fun i _ =>
    (Real.sqrt (sumTo 512 (fun k => f i k * f i k) / 512 - sumTo 512 (f i) / 512 * (sumTo 512 (f i) / 512) + eps))⁻¹) := by
  refine R2.rsqrt (((meanK_reads (hx.mul hx)).sub ((meanK_reads hx).mul (meanK_reads hx))).add (R2.splat ofBits_eps)) ?_
  intro i j _ _
  have := var_one_pass (f i)
  unfold mean at this
  rw [this]
  exact add_pos_of_nonneg_of_pos (var_nonneg _) eps_pos

theorem lnK_reads {g b : Mat 1 512} {γ β : ℕ → ℕ → ℝ} (hx : R2 x f) (hg : R2 g γ) (hb : R2 b β) :
    R2 (lnK M x g b) (fun i j => ln (γ 0) (β 0) (f i) j) := by
  have hrs : R2 (broadcastTo ⟨2, ![M, 512]⟩ (rsK M x) (bcCol M 512)) _ := (rsK_reads hx).colTo (bcCol M 512)
  have hmr : R2 (broadcastTo ⟨2, ![M, 512]⟩ (mulf (meanK M x) (rsK M x)) (bcCol M 512)) _ :=
    ((meanK_reads hx).mul (rsK_reads hx)).colTo (bcCol M 512)
  have hgr : R2 (broadcastTo ⟨2, ![M, 512]⟩ g (bcRow M 512)) fun _ j => γ 0 j := hg.rowTo (bcRow M 512)
  have hbr : R2 (broadcastTo ⟨2, ![M, 512]⟩ b (bcRow M 512)) fun _ j => β 0 j := hb.rowTo (bcRow M 512)
  have h := (hx.mul (hrs.mul hgr)).add (hbr.sub (hmr.mul hgr))
  exact At2.congr h fun i j _ _ => congrArg _ (ln_one_pass (γ 0) (β 0) (f i) j)

theorem ffK_reads {W1 W2 : Mat 512 512} {c1 c2 : Mat 1 512} (P : Params) {γ₁ γ₂ : ℕ → ℕ → ℝ} (hx : R2 x f)
    (h1 : R2 W1 P.W1) (hc1 : R2 c1 γ₁) (e1 : γ₁ 0 = P.c1) (h2 : R2 W2 P.W2) (hc2 : R2 c2 γ₂) (e2 : γ₂ 0 = P.c2) :
    R2 (ffK M x W1 c1 W2 c2) (fun i j => ff P (f i) j) := by
  have h := hx.add (linK_reads ((linK_reads hx h1 hc1).maximum (R2.splat Ideal.ofBits_zero_f32)) h2 hc2)
  rw [e1, e2] at h
  exact h

end Rows

/-! ## The masked softmax -/

/-- The softmax of the rows of a block. -/
def softmaxK (M N : ℕ) (s : Mat M N) : Mat M N :=
  have m : Mat M N := broadcastTo ⟨2, ![M, N]⟩ (shapeCast ⟨2, ![M, 1]⟩
    (multiReduction (F := Ideal) (φ := .f32) .maximumf [1] ⟨1, ![M]⟩ s 0xFF800000#32 (redRow M N) (.inl rfl) rfl) (castCol M)) (bcCol M N)
  divf (exp (subf s m)) (broadcastTo ⟨2, ![M, N]⟩ (sumK M N (exp (subf s m))) (bcCol M N))

theorem lift_row {M N : ℕ} (i : Fin M) (k : Fin N) : (redRow M N).lift (ix1 i) k = ix2 i k := by
  funext x; refine Fin.ext ?_
  match x with
  | ⟨0, _⟩ => rfl
  | ⟨1, _⟩ => rfl

/-- The row maxima, from minus infinity. -/
theorem rowMax_at {M N : ℕ} (s : Mat M N) (hφ : FKind.Formats .f32) (hacc : (0xFF800000#32 : BitVec 32) = FKind.maximumf.neutral .f32 hφ) :
    At1 (multiReduction (F := Ideal) (φ := .f32) .maximumf [1] ⟨1, ![M]⟩ s 0xFF800000#32 (redRow M N) hφ hacc)
      (fun r => if hr : r < M then (Finset.univ : Finset (Fin N)).fold max ⊥ (fun k => s (ix2 ⟨r, hr⟩ k)) else 0) := by
  intro r
  rw [Ideal.multiReduction_maximumf_single]
  refine Eq.trans ?_ (dif_pos r.isLt).symm
  have e1 : (FloatOps.ofBits (F := Ideal) .f32 0xFF800000#32 : EReal) = ⊥ := by
    show Ideal.ofBits .f32 0xFF800000#32 = ⊥
    simp [Ideal.ofBits, Ideal.ieee]
  have e2 : s ∘ (redRow M N).lift (ix1 r) = fun k : Fin N => s (ix2 r k) := funext fun k => congrArg s (lift_row r k)
  exact (congrArg (fun b : EReal => Finset.fold max b _ _) e1).trans
    (congrArg (fun w : Fin N → EReal => Finset.fold max ⊥ w Finset.univ) e2)

/-- The row sums, as extended reals. -/
theorem rowSum_at {M N : ℕ} (s : Mat M N) (hφ : FKind.Formats .f32) (hacc : (0x00000000#32 : BitVec 32) = FKind.add.neutral .f32 hφ) :
    At1 (multiReduction (F := Ideal) (φ := .f32) .add [1] ⟨1, ![M]⟩ s 0x00000000#32 (redRow M N) hφ hacc)
      (fun r => if hr : r < M then ∑ k : Fin N, s (ix2 ⟨r, hr⟩ k) else 0) := by
  intro r
  rw [Ideal.multiReduction_add_single]
  refine Eq.trans ?_ (dif_pos r.isLt).symm
  exact Finset.sum_congr rfl fun k _ => congrArg s (lift_row r k)

/-- A softmax whose rows are real on the columns of their own residue class and masked elsewhere. -/
theorem softmaxK_reads {M N : ℕ} {s : Mat M N} {a : ℕ → ℕ → ℝ} (hN : 16 ≤ N)
    (hs : At2 s fun i j => if j % 16 = i % 16 then ((a i j : ℝ) : EReal) else ⊥) :
    R2 (softmaxK M N s) (fun i j => (if j % 16 = i % 16 then Real.exp (a i j) else 0)
      / sumTo N fun k => if k % 16 = i % 16 then Real.exp (a i k) else 0) := by
  intro i j
  have hmax : ∀ k : Fin N, broadcastTo ⟨2, ![M, N]⟩ (shapeCast ⟨2, ![M, 1]⟩
      (multiReduction (F := Ideal) (φ := .f32) .maximumf [1] ⟨1, ![M]⟩ s 0xFF800000#32 (redRow M N) (.inl rfl) rfl) (castCol M)) (bcCol M N) (ix2 i k)
      = (Finset.univ : Finset (Fin N)).fold max ⊥ (fun k => s (ix2 i k)) := by
    intro k
    exact ((((rowMax_at s (.inl rfl) rfl).col (castCol M)).colTo (bcCol M N)) i k).trans (dif_pos i.isLt)
  have hsum : ∀ (x : Mat M N) (k : Fin N), broadcastTo ⟨2, ![M, N]⟩ (sumK M N x) (bcCol M N) (ix2 i k) = ∑ k : Fin N, x (ix2 i k) := by
    intro x k
    exact ((((rowSum_at x (.inl rfl) rfl).col (castCol M)).colTo (bcCol M N)) i k).trans (dif_pos i.isLt)
  refine Eq.trans ?_ (softmax_masked (fun k : Fin N => s (ix2 i k)) (fun k => k % 16 = i.val % 16) (fun k => a i k) (fun k => hs i k)
    ⟨i.val % 16, by omega⟩ (by simp) j)
  refine (congrArg (fun z : EReal => Ideal.div _ z) (hsum _ j)).trans ?_
  refine congrArg₂ (fun y z : EReal => Ideal.div y z) ?_ (Finset.sum_congr rfl fun k _ => ?_)
  · exact congrArg (fun z : EReal => Ideal.exp (s (ix2 i j) - z)) (hmax j)
  · exact congrArg (fun z : EReal => Ideal.exp (s (ix2 i k) - z)) (hmax k)

end Cert.Stages

end
-- ==== Proof.Attention.lean ====
/- The attention of the kernel's body, over groups of 16 tokens and heads of 64 columns: the scores of every group and head
   stacked by rows, their masked softmax, and the contexts put back side by side; `m` query rows to a group. -/
module

public import proofs.«01_k».proof.Proof.Stages

@[expose] public section

noncomputable section

namespace Cert.Stages

open Idealize.ShloMosaic Cert.Reading Cert.Spec
open scoped BigOperators

/-- `N` equal pieces fill their concatenation by rows. -/
theorem concatsRows {N K n b : ℕ} (p : Fin N → (⟨2, ![K, b]⟩ : Shape).Idx → EReal) (hN : 2 ≤ N) (hn : n = N * K) :
    Shape.Concatenates ((List.ofFn fun k : Fin N => (⟨⟨2, ![K, b]⟩, p k⟩ : (s : Shape) × (s.Idx → EReal))).map (·.1)) ⟨2, ![n, b]⟩ 0 := by
  rw [List.map_ofFn]
  refine ⟨by rw [List.length_ofFn]; exact hN, ?_, ?_⟩
  · intro s hs
    obtain ⟨k, rfl⟩ := (List.mem_ofFn' _ _).mp hs
    refine ⟨rfl, fun x hx => ?_⟩
    match x with
    | ⟨0, _⟩ => exact absurd rfl hx
    | ⟨1, _⟩ => rfl
  · rw [List.map_ofFn, List.sum_ofFn]
    show ∑ k : Fin N, K = n
    rw [Finset.sum_const, Finset.card_univ, Fintype.card_fin, smul_eq_mul, hn]

/-- `N` equal pieces fill their concatenation by columns. -/
theorem concatsCols {N K n b : ℕ} (p : Fin N → (⟨2, ![b, K]⟩ : Shape).Idx → EReal) (hN : 2 ≤ N) (hn : n = N * K) :
    Shape.Concatenates ((List.ofFn fun k : Fin N => (⟨⟨2, ![b, K]⟩, p k⟩ : (s : Shape) × (s.Idx → EReal))).map (·.1)) ⟨2, ![b, n]⟩ 1 := by
  rw [List.map_ofFn]
  refine ⟨by rw [List.length_ofFn]; exact hN, ?_, ?_⟩
  · intro s hs
    obtain ⟨k, rfl⟩ := (List.mem_ofFn' _ _).mp hs
    refine ⟨rfl, fun x hx => ?_⟩
    match x with
    | ⟨0, _⟩ => rfl
    | ⟨1, _⟩ => exact absurd rfl hx
  · rw [List.map_ofFn, List.sum_ofFn]
    show ∑ k : Fin N, K = n
    rw [Finset.sum_const, Finset.card_univ, Fintype.card_fin, smul_eq_mul, hn]

theorem group_le {m c n k : ℕ} (hc : c < k) (hn : n = k * m) : m * c + m ≤ n := by
  rw [← Nat.mul_succ, hn, Nat.mul_comm]; exact Nat.mul_le_mul_right m hc

section Defs

variable {m nq ns : ℕ}

/-- The scores of group `n / 8` in head `n % 8`: queries `m` rows a group, keys 144, plus the mask. -/
def scoreBlk (hq : nq = 8 * m) (q : Mat nq 512) (kv : Mat 1152 1024) (mask : Mat m 144) (n : Fin 64) : Mat m 144 :=
  addf (matmul (DotDims.transposedRhs m 64 144) none
      (extractStridedSlice ⟨2, ![m, 64]⟩ ![0, 64 * (n.val % 8)] (extractStridedSlice ⟨2, ![m, 512]⟩ ![m * (n.val / 8), 0] q
        (slices2 (group_le (by omega) hq) (by omega))) (slices2 (by omega) (by omega)))
      (extractStridedSlice ⟨2, ![144, 64]⟩ ![0, 64 * (n.val % 8)] (extractStridedSlice ⟨2, ![144, 512]⟩ ![144 * (n.val / 8), 0] kv
        (slices2 (by omega) (by omega))) (slices2 (by omega) (by omega)))
      (constant ⟨2, ![m, 144]⟩ .f32 0x00000000#32)) mask

/-- The scores of all groups and heads. -/
def scoresK (hq : nq = 8 * m) (hs : ns = 64 * m) (q : Mat nq 512) (kv : Mat 1152 1024) (mask : Mat m 144) : Mat ns 144 :=
  concatenate ⟨2, ![ns, 144]⟩ 0 (List.ofFn fun n : Fin 64 => (⟨⟨2, ![m, 144]⟩, scoreBlk hq q kv mask n⟩ : (s : Shape) × (s.Idx → EReal)))
    (concatsRows _ (by omega) hs)

/-- The context of group `c` in head `h`. -/
def ctxBlk (hs : ns = 64 * m) (p : Mat ns 144) (kv : Mat 1152 1024) (c h : Fin 8) : Mat m 64 :=
  matmul (DotDims.plain m 144 64) none
    (extractStridedSlice ⟨2, ![m, 144]⟩ ![m * (8 * c.val + h.val), 0] p (slices2 (group_le (by omega) hs) (by omega)))
    (extractStridedSlice ⟨2, ![144, 64]⟩ ![0, 64 * h.val] (extractStridedSlice ⟨2, ![144, 512]⟩ ![144 * c.val, 512] kv
      (slices2 (by omega) (by omega))) (slices2 (by omega) (by omega)))
    (constant ⟨2, ![m, 64]⟩ .f32 0x00000000#32)

/-- The context of group `c`, its heads side by side. -/
def ctxGrp (hs : ns = 64 * m) (p : Mat ns 144) (kv : Mat 1152 1024) (c : Fin 8) : Mat m 512 :=
  concatenate ⟨2, ![m, 512]⟩ 1 (List.ofFn fun h : Fin 8 => (⟨⟨2, ![m, 64]⟩, ctxBlk hs p kv c h⟩ : (s : Shape) × (s.Idx → EReal)))
    (concatsCols _ (by omega) rfl)

/-- The contexts of all groups. -/
def ctxK (hq : nq = 8 * m) (hs : ns = 64 * m) (p : Mat ns 144) (kv : Mat 1152 1024) : Mat nq 512 :=
  concatenate ⟨2, ![nq, 512]⟩ 0 (List.ofFn fun c : Fin 8 => (⟨⟨2, ![m, 512]⟩, ctxGrp hs p kv c⟩ : (s : Shape) × (s.Idx → EReal)))
    (concatsRows _ (by omega) hq)

end Defs

section Reads

variable {m nq ns : ℕ} (hq : nq = 8 * m) (hs : ns = 64 * m)
variable {q : Mat nq 512} {kv : Mat 1152 1024} {mask : Mat m 144} {fq fkv : ℕ → ℕ → ℝ}

/-- The mask: zero on the columns of the row's residue class, minus infinity elsewhere. -/
abbrev IsMask (mask : Mat m 144) : Prop := At2 mask fun i j => if j % 16 = i % 16 then (0 : EReal) else ⊥

/-- The score of a query row against row `j` of its group. -/
def rowScore (m : ℕ) (fq fkv : ℕ → ℕ → ℝ) (R j : ℕ) : ℝ :=
  sumTo 64 fun e => fq (m * (R / m / 8) + R % m) (64 * (R / m % 8) + e) * fkv (144 * (R / m / 8) + j) (64 * (R / m % 8) + e)

theorem scoreBlk_reads (hfq : R2 q fq) (hkv : R2 kv fkv) (hm : IsMask mask) (n : Fin 64) :
    At2 (scoreBlk hq q kv mask n) fun i j => if j % 16 = i % 16 then
      (((sumTo 64 fun e => fq (m * (n.val / 8) + i) (64 * (n.val % 8) + e) * fkv (144 * (n.val / 8) + j) (64 * (n.val % 8) + e) : ℝ)) : EReal) else ⊥ := by
  have h := ((hfq.slice (slices2 (p := m * (n.val / 8)) (q := 0) (a' := m) (b' := 512) (group_le (by omega) hq) (by omega))).slice
      (slices2 (p := 0) (q := 64 * (n.val % 8)) (a' := m) (b' := 64) (by omega) (by omega)))
  have h' := ((hkv.slice (slices2 (p := 144 * (n.val / 8)) (q := 0) (a' := 144) (b' := 512) (by omega) (by omega))).slice
      (slices2 (p := 0) (q := 64 * (n.val % 8)) (a' := 144) (b' := 64) (by omega) (by omega)))
  have hd := R2.matmulT h h'
  intro i j
  refine (congrArg₂ (fun x y : EReal => x + y) (hd i j) (hm i j)).trans ?_
  simp only [Nat.zero_add]
  split
  · rw [add_zero]
  · exact EReal.add_bot _

theorem scoresK_reads (h16 : 16 ∣ m) (hfq : R2 q fq) (hkv : R2 kv fkv) (hm : IsMask mask) :
    At2 (scoresK hq hs q kv mask) fun R j => if j % 16 = R % 16 then ((rowScore m fq fkv R j : ℝ) : EReal) else ⊥ := by
  have h := At2.concatRows (p := scoreBlk hq q kv mask)
    (φ := fun n i j => if j % 16 = i % 16 then
      (((sumTo 64 fun e => fq (m * (n / 8) + i) (64 * (n % 8) + e) * fkv (144 * (n / 8) + j) (64 * (n % 8) + e) : ℝ)) : EReal) else ⊥)
    (scoreBlk_reads hq hfq hkv hm) hs (concatsRows _ (by omega) hs)
  refine At2.congr h fun R j _ _ => ?_
  have : R % m % 16 = R % 16 := Nat.mod_mod_of_dvd R h16
  simp only [this]
  rfl

theorem ctxK_reads {p : Mat ns 144} {fp : ℕ → ℕ → ℝ} (hp : R2 p fp) (hkv : R2 kv fkv) :
    R2 (ctxK hq hs p kv) fun r d => sumTo 144 fun j => fp (m * (8 * (r / m) + d / 64) + r % m) j * fkv (144 * (r / m) + j) (512 + d) := by
  have hb : ∀ c h : Fin 8, R2 (ctxBlk hs p kv c h) fun i d => sumTo 144 fun j =>
      fp (m * (8 * c.val + h.val) + i) j * fkv (144 * c.val + j) (512 + (64 * h.val + d)) := by
    intro c h
    have h1 := hp.slice (slices2 (p := m * (8 * c.val + h.val)) (q := 0) (a' := m) (b' := 144) (group_le (by omega) hs) (by omega))
    have h2 := (hkv.slice (slices2 (p := 144 * c.val) (q := 512) (a' := 144) (b' := 512) (by omega) (by omega))).slice
      (slices2 (p := 0) (q := 64 * h.val) (a' := 144) (b' := 64) (by omega) (by omega))
    refine At2.congr (R2.matmul h1 h2) fun i d _ _ => ?_
    simp only [Nat.zero_add]
  have hg : ∀ c : Fin 8, R2 (ctxGrp hs p kv c) fun i d => sumTo 144 fun j =>
      fp (m * (8 * c.val + d / 64) + i) j * fkv (144 * c.val + j) (512 + d) := by
    intro c
    have h := At2.concatCols (p := ctxBlk hs p kv c)
      (φ := fun h i d => ((sumTo 144 fun j => fp (m * (8 * c.val + h) + i) j * fkv (144 * c.val + j) (512 + (64 * h + d)) : ℝ) : EReal))
      (hb c) (n := 512) rfl (concatsCols _ (by omega) rfl)
    refine At2.congr h fun i d _ _ => ?_
    simp only [Nat.div_add_mod]
  exact At2.concatRows (p := ctxGrp hs p kv)
      (φ := fun c i d => ((sumTo 144 fun j => fp (m * (8 * c + d / 64) + i) j * fkv (144 * c + j) (512 + d) : ℝ) : EReal))
      hg hq (concatsRows _ (by omega) hq)

/-- The attention as a whole: every query row gets the context of its token. -/
theorem attnK_reads (h16 : 16 ∣ m) (hm0 : 0 < m) (hfq : R2 q fq) (hkv : R2 kv fkv) (hm : IsMask mask) :
    R2 (ctxK hq hs (softmaxK ns 144 (scoresK hq hs q kv mask)) kv) fun r d =>
      ctx (fun _ => fq r) (fun u => fkv (row (tok m r) u)) (fun u j => fkv (row (tok m r) u) (512 + j)) 0 d := by
  refine At2.congr (ctxK_reads hq hs (softmaxK_reads (by norm_num) (scoresK_reads hq hs h16 hfq hkv hm)) hkv) fun r d _ hd => ?_
  have ht : tok m r % 16 = r % 16 := by unfold tok; omega
  have ht' : tok m r / 16 = r / m := by unfold tok; omega
  have hr : (m * (8 * (r / m) + d / 64) + r % m) % 16 = r % 16 := by
    obtain ⟨k, rfl⟩ := h16
    rw [Nat.add_mod, Nat.mul_assoc, Nat.mul_mod_right, Nat.zero_add, Nat.mod_mod, Nat.mod_mul_right_mod]
  have hR : (m * (8 * (r / m) + d / 64) + r % m) / m = 8 * (r / m) + d / 64 := by
    rw [Nat.mul_add_div hm0, Nat.div_eq_of_lt (Nat.mod_lt _ hm0), Nat.add_zero]
  have hR' : (m * (8 * (r / m) + d / 64) + r % m) % m = r % m := by
    rw [Nat.mul_add_mod, Nat.mod_mod]
  have h8 : (8 * (r / m) + d / 64) / 8 = r / m := by omega
  have h8' : (8 * (r / m) + d / 64) % 8 = d / 64 := by omega
  refine congrArg (fun z : ℝ => (z : EReal)) ?_
  show (sumTo 144 fun j => ((if j % 16 = (m * (8 * (r / m) + d / 64) + r % m) % 16 then _ else _) / (sumTo 144 fun k => if k % 16 = (m * (8 * (r / m) + d / 64) + r % m) % 16 then _ else _) * _)) = _
  rw [hr, ← ht]
  refine ctx_masked (fun _ => fq r) fkv (fun ρ j => fkv ρ (512 + j)) (tok m r) 0 d _ (fun j => fkv (144 * (r / m) + j) (512 + d)) ?_ ?_
  · intro u
    unfold rowScore score row
    rw [hR, hR', h8, h8', Nat.div_add_mod, ht']
  · intro u
    unfold row
    rw [ht']

end Reads

end Cert.Stages

end
-- ==== Proof.Env.lean ====
/- The kernel's body at one grid point: the memrefs and the input blocks it is run at, and the arrays its run names. -/
module

public import proofs.«01_k».proof.Proof.Gen.KernelIdeal.Value
public import proofs.«01_k».proof.Proof.Attention

@[expose] public section

noncomputable section

namespace Cert.KernelIdeal.Body

open Idealize.ShloMosaic Cert.KernelIdeal Cert.KernelIdeal.Gen Cert.Stages

/-- What the body is run at: the grid point, the memrefs of its windows, and the blocks they hold. -/
structure Env where
  c : Dev nD
  i : grid0.Coords
  arg1 : Memref sig .tc .vmem S1x1152x1 .i32
  harg1 : arg1.IsWhole
  arg2 : Memref sig .tc .vmem S128x9 .i32
  harg2 : arg2.IsWhole
  arg3 : Memref sig .tc .vmem S144x144 .f32
  harg3 : arg3.IsWhole
  arg4 : Memref sig .tc .vmem S16x144 .f32
  harg4 : arg4.IsWhole
  arg5 : Memref sig .tc .vmem S631x512 .f32
  harg5 : arg5.IsWhole
  arg6 : Memref sig .tc .vmem S1x512 .f32
  harg6 : arg6.IsWhole
  arg7 : Memref sig .tc .vmem S5679x512 .f32
  harg7 : arg7.IsWhole
  arg8 : Memref sig .tc .vmem S1x512 .f32
  harg8 : arg8.IsWhole
  arg9 : Memref sig .tc .vmem S2x512x1536 .f32
  harg9 : arg9.IsWhole
  arg10 : Memref sig .tc .vmem S2x1x1536 .f32
  harg10 : arg10.IsWhole
  arg11 : Memref sig .tc .vmem S2x512x512 .f32
  harg11 : arg11.IsWhole
  arg12 : Memref sig .tc .vmem S2x1x512 .f32
  harg12 : arg12.IsWhole
  arg13 : Memref sig .tc .vmem S2x1x512 .f32
  harg13 : arg13.IsWhole
  arg14 : Memref sig .tc .vmem S2x1x512 .f32
  harg14 : arg14.IsWhole
  arg15 : Memref sig .tc .vmem S2x512x512 .f32
  harg15 : arg15.IsWhole
  arg16 : Memref sig .tc .vmem S2x1x512 .f32
  harg16 : arg16.IsWhole
  arg17 : Memref sig .tc .vmem S2x512x512 .f32
  harg17 : arg17.IsWhole
  arg18 : Memref sig .tc .vmem S2x1x512 .f32
  harg18 : arg18.IsWhole
  arg19 : Memref sig .tc .vmem S2x1x512 .f32
  harg19 : arg19.IsWhole
  arg20 : Memref sig .tc .vmem S2x1x512 .f32
  harg20 : arg20.IsWhole
  arg21 : Memref sig .tc .vmem S512x512 .f32
  harg21 : arg21.IsWhole
  arg22 : Memref sig .tc .vmem S1x512 .f32
  harg22 : arg22.IsWhole
  arg23 : Memref sig .tc .vmem S128x512 .f32
  harg23 : arg23.IsWhole
  arg24 : Memref sig .tc .vmem S8x128 .f32
  harg24 : arg24.IsWhole
  x0 : Vec Ideal S1x1152x1 .i32
  x1 : Vec Ideal S128x9 .i32
  x2 : Vec Ideal S144x144 .f32
  x3 : Vec Ideal S16x144 .f32
  x4 : Vec Ideal S631x512 .f32
  x5 : Vec Ideal S1x512 .f32
  x6 : Vec Ideal S5679x512 .f32
  x7 : Vec Ideal S1x512 .f32
  x8 : Vec Ideal S2x512x1536 .f32
  x9 : Vec Ideal S2x1x1536 .f32
  x10 : Vec Ideal S2x512x512 .f32
  x11 : Vec Ideal S2x1x512 .f32
  x12 : Vec Ideal S2x1x512 .f32
  x13 : Vec Ideal S2x1x512 .f32
  x14 : Vec Ideal S2x512x512 .f32
  x15 : Vec Ideal S2x1x512 .f32
  x16 : Vec Ideal S2x512x512 .f32
  x17 : Vec Ideal S2x1x512 .f32
  x18 : Vec Ideal S2x1x512 .f32
  x19 : Vec Ideal S2x1x512 .f32
  x20 : Vec Ideal S512x512 .f32
  x21 : Vec Ideal S1x512 .f32

namespace Env

variable (E : Env)

/-- In the body's run: the embedded positions. -/
abbrev h : Mat 1152 512 := kernelRun0_A.sl.r (F := Ideal) E.c E.arg1 E.harg1 E.arg5 E.harg5 E.arg6 E.harg6 E.x0 E.x4 E.x5
/-- In the body's run: the first adapter's output. -/
abbrev raw : Mat 128 512 := kernelRun0_A.sl.r_6 (F := Ideal) E.c E.arg2 E.harg2 E.arg7 E.harg7 E.arg8 E.harg8 E.x1 E.x6 E.x7
/-- In the body's run: the mask of the first layer. -/
abbrev m1 : Mat 144 144 := kernelRun0_A.sl.r_7 (F := Ideal) E.c E.arg3 E.harg3 E.x2
/-- In the body's run: the mask of the second layer. -/
abbrev m2 : Mat 16 144 := kernelRun0_A.sl.r_9 (F := Ideal) E.c E.arg4 E.harg4 E.x3
/-- In the body's run: the queries of the first layer. -/
abbrev q : Mat 1152 512 := kernelRun0_A.sl.r_10 (F := Ideal) E.c E.arg1 E.harg1 E.arg5 E.harg5 E.arg6 E.harg6 E.arg9 E.harg9 E.arg10 E.harg10 E.x0 E.x4 E.x5 E.x8 E.x9
/-- In the body's run: its keys and values. -/
abbrev kv : Mat 1152 1024 := kernelRun0_A.sl.r_11 (F := Ideal) E.c E.arg1 E.harg1 E.arg5 E.harg5 E.arg6 E.harg6 E.arg9 E.harg9 E.arg10 E.harg10 E.x0 E.x4 E.x5 E.x8 E.x9
/-- In the body's run: its softmax. -/
abbrev p : Mat 9216 144 := kernelRun0_A.sl.r_79 (F := Ideal) E.c E.arg1 E.harg1 E.arg3 E.harg3 E.arg5 E.harg5 E.arg6 E.harg6 E.arg9 E.harg9 E.arg10 E.harg10 E.x0 E.x2 E.x4 E.x5 E.x8 E.x9
/-- In the body's run: its attention with the residual. -/
abbrev a : Mat 1152 512 := kernelRun0_A.sl.r_107 (F := Ideal) E.c E.arg1 E.harg1 E.arg3 E.harg3 E.arg5 E.harg5 E.arg6 E.harg6 E.arg9 E.harg9 E.arg10 E.harg10 E.arg11 E.harg11 E.arg12 E.harg12 E.x0 E.x2 E.x4 E.x5 E.x8 E.x9 E.x10 E.x11
/-- In the body's run: its first normalisation. -/
abbrev y : Mat 1152 512 := kernelRun0_A.sl.r_109 (F := Ideal) E.c E.arg1 E.harg1 E.arg3 E.harg3 E.arg5 E.harg5 E.arg6 E.harg6 E.arg9 E.harg9 E.arg10 E.harg10 E.arg11 E.harg11 E.arg12 E.harg12 E.arg13 E.harg13 E.arg14 E.harg14 E.x0 E.x2 E.x4 E.x5 E.x8 E.x9 E.x10 E.x11 E.x12 E.x13
/-- In the body's run: its result. -/
abbrev h2 : Mat 1152 512 := kernelRun0_A.sl.r_111 (F := Ideal) E.c E.arg1 E.harg1 E.arg3 E.harg3 E.arg5 E.harg5 E.arg6 E.harg6 E.arg9 E.harg9 E.arg10 E.harg10 E.arg11 E.harg11 E.arg12 E.harg12 E.arg13 E.harg13 E.arg14 E.harg14 E.arg15 E.harg15 E.arg16 E.harg16 E.arg17 E.harg17 E.arg18 E.harg18 E.arg19 E.harg19 E.arg20 E.harg20 E.x0 E.x2 E.x4 E.x5 E.x8 E.x9 E.x10 E.x11 E.x12 E.x13 E.x14 E.x15 E.x16 E.x17 E.x18 E.x19
/-- In the body's run: the keys and values of the second layer. -/
abbrev kv2 : Mat 1152 1024 := kernelRun0_A.sl.r_114 (F := Ideal) E.c E.arg1 E.harg1 E.arg3 E.harg3 E.arg5 E.harg5 E.arg6 E.harg6 E.arg9 E.harg9 E.arg10 E.harg10 E.arg11 E.harg11 E.arg12 E.harg12 E.arg13 E.harg13 E.arg14 E.harg14 E.arg15 E.harg15 E.arg16 E.harg16 E.arg17 E.harg17 E.arg18 E.harg18 E.arg19 E.harg19 E.arg20 E.harg20 E.x0 E.x2 E.x4 E.x5 E.x8 E.x9 E.x10 E.x11 E.x12 E.x13 E.x14 E.x15 E.x16 E.x17 E.x18 E.x19
/-- In the body's run: the rows of position zero. -/
abbrev h20 : Mat 128 512 := kernelRun0_A.sl.r_115 (F := Ideal) E.c E.arg1 E.harg1 E.arg3 E.harg3 E.arg5 E.harg5 E.arg6 E.harg6 E.arg9 E.harg9 E.arg10 E.harg10 E.arg11 E.harg11 E.arg12 E.harg12 E.arg13 E.harg13 E.arg14 E.harg14 E.arg15 E.harg15 E.arg16 E.harg16 E.arg17 E.harg17 E.arg18 E.harg18 E.arg19 E.harg19 E.arg20 E.harg20 E.x0 E.x2 E.x4 E.x5 E.x8 E.x9 E.x10 E.x11 E.x12 E.x13 E.x14 E.x15 E.x16 E.x17 E.x18 E.x19
/-- In the body's run: their queries. -/
abbrev q2 : Mat 128 512 := kernelRun0_A.sl.r_116 (F := Ideal) E.c E.arg1 E.harg1 E.arg3 E.harg3 E.arg5 E.harg5 E.arg6 E.harg6 E.arg9 E.harg9 E.arg10 E.harg10 E.arg11 E.harg11 E.arg12 E.harg12 E.arg13 E.harg13 E.arg14 E.harg14 E.arg15 E.harg15 E.arg16 E.harg16 E.arg17 E.harg17 E.arg18 E.harg18 E.arg19 E.harg19 E.arg20 E.harg20 E.x0 E.x2 E.x4 E.x5 E.x8 E.x9 E.x10 E.x11 E.x12 E.x13 E.x14 E.x15 E.x16 E.x17 E.x18 E.x19
/-- In the body's run: their softmax. -/
abbrev p2 : Mat 1024 144 := kernelRun0_A.sl.r_199 (F := Ideal) E.c E.arg1 E.harg1 E.arg3 E.harg3 E.arg4 E.harg4 E.arg5 E.harg5 E.arg6 E.harg6 E.arg9 E.harg9 E.arg10 E.harg10 E.arg11 E.harg11 E.arg12 E.harg12 E.arg13 E.harg13 E.arg14 E.harg14 E.arg15 E.harg15 E.arg16 E.harg16 E.arg17 E.harg17 E.arg18 E.harg18 E.arg19 E.harg19 E.arg20 E.harg20 E.x0 E.x2 E.x3 E.x4 E.x5 E.x8 E.x9 E.x10 E.x11 E.x12 E.x13 E.x14 E.x15 E.x16 E.x17 E.x18 E.x19
/-- In the body's run: their attention with the residual, before the bias. -/
abbrev s2 : Mat 128 512 := kernelRun0_A.sl.r_230 (F := Ideal) E.c E.arg1 E.harg1 E.arg3 E.harg3 E.arg4 E.harg4 E.arg5 E.harg5 E.arg6 E.harg6 E.arg9 E.harg9 E.arg10 E.harg10 E.arg11 E.harg11 E.arg12 E.harg12 E.arg13 E.harg13 E.arg14 E.harg14 E.arg15 E.harg15 E.arg16 E.harg16 E.arg17 E.harg17 E.arg18 E.harg18 E.arg19 E.harg19 E.arg20 E.harg20 E.x0 E.x2 E.x3 E.x4 E.x5 E.x8 E.x9 E.x10 E.x11 E.x12 E.x13 E.x14 E.x15 E.x16 E.x17 E.x18 E.x19
/-- In the body's run: its normalisation. -/
abbrev y2 : Mat 128 512 := kernelRun0_A.sl.r_232 (F := Ideal) E.c E.arg1 E.harg1 E.arg3 E.harg3 E.arg4 E.harg4 E.arg5 E.harg5 E.arg6 E.harg6 E.arg9 E.harg9 E.arg10 E.harg10 E.arg11 E.harg11 E.arg12 E.harg12 E.arg13 E.harg13 E.arg14 E.harg14 E.arg15 E.harg15 E.arg16 E.harg16 E.arg17 E.harg17 E.arg18 E.harg18 E.arg19 E.harg19 E.arg20 E.harg20 E.x0 E.x2 E.x3 E.x4 E.x5 E.x8 E.x9 E.x10 E.x11 E.x12 E.x13 E.x14 E.x15 E.x16 E.x17 E.x18 E.x19
/-- In the body's run: the last linear map, before the bias. -/
abbrev g : Mat 128 512 := kernelRun0_A.sl.r_234 (F := Ideal) E.c E.arg1 E.harg1 E.arg3 E.harg3 E.arg4 E.harg4 E.arg5 E.harg5 E.arg6 E.harg6 E.arg9 E.harg9 E.arg10 E.harg10 E.arg11 E.harg11 E.arg12 E.harg12 E.arg13 E.harg13 E.arg14 E.harg14 E.arg15 E.harg15 E.arg16 E.harg16 E.arg17 E.harg17 E.arg18 E.harg18 E.arg19 E.harg19 E.arg20 E.harg20 E.arg21 E.harg21 E.x0 E.x2 E.x3 E.x4 E.x5 E.x8 E.x9 E.x10 E.x11 E.x12 E.x13 E.x14 E.x15 E.x16 E.x17 E.x18 E.x19 E.x20

/-- What the output's staging buffer holds after the body. -/
abbrev out : Mat 128 512 := out0_A_22 (F := Ideal) E.c E.i E.arg1 E.harg1 E.arg2 E.harg2 E.arg3 E.harg3 E.arg4 E.harg4 E.arg5 E.harg5 E.arg6 E.harg6 E.arg7 E.harg7 E.arg8 E.harg8 E.arg9 E.harg9 E.arg10 E.harg10 E.arg11 E.harg11 E.arg12 E.harg12 E.arg13 E.harg13 E.arg14 E.harg14 E.arg15 E.harg15 E.arg16 E.harg16 E.arg17 E.harg17 E.arg18 E.harg18 E.arg19 E.harg19 E.arg20 E.harg20 E.arg21 E.harg21 E.arg22 E.harg22 E.arg23 E.harg23 E.arg24 E.harg24 E.x0 E.x1 E.x2 E.x3 E.x4 E.x5 E.x6 E.x7 E.x8 E.x9 E.x10 E.x11 E.x12 E.x13 E.x14 E.x15 E.x16 E.x17 E.x18 E.x19 E.x20 E.x21

end Env

end Cert.KernelIdeal.Body

end
-- ==== Proof.Embed.lean ====
/- Loads of whole memrefs, and the one-hot products of the kernel's body: a row of indices compared with the column numbers,
   times a table, picks the table's row. -/
module

public import proofs.«01_k».proof.Proof.Attention
public import Idealize.ShloMosaic.Lib.WholeRead

@[expose] public section

noncomputable section

namespace Cert.Stages

open Idealize.ShloMosaic Cert.Reading Cert.Spec
open scoped BigOperators

/-! ## Loads -/

section Loads

variable {sig : RefSig} {e : EltTy}

theorem castDrop (a b : ℕ) : (⟨3, ![1, a, b]⟩ : Shape).ShapeCasts ⟨2, ![a, b]⟩ := by
  simp [Shape.ShapeCasts, Shape.numel, Fin.prod_univ_succ]

theorem inb3 {L a b l : ℕ} (hl : l < L) : ∀ x : Fin 3, (![l, 0, 0] : Fin 3 → ℕ) x + (![1, a, b] : Fin 3 → ℕ) x ≤ (⟨3, ![L, a, b]⟩ : Shape).size x :=
  fun x => match x with
  | ⟨0, _⟩ => hl
  | ⟨1, _⟩ => le_of_eq (Nat.zero_add _)
  | ⟨2, _⟩ => le_of_eq (Nat.zero_add _)

theorem inb2 {a b c q : ℕ} (hq : q + c ≤ b) : ∀ x : Fin 2, (![0, q] : Fin 2 → ℕ) x + (![a, c] : Fin 2 → ℕ) x ≤ (⟨2, ![a, b]⟩ : Shape).size x :=
  fun x => match x with
  | ⟨0, _⟩ => le_of_eq (Nat.zero_add _)
  | ⟨1, _⟩ => hq

/-- The page `l` of a stack of matrices, loaded and cast to a matrix. -/
def page {L a b : ℕ} {m : Memref sig .tc .vmem ⟨3, ![L, a, b]⟩ e} (h : m.IsWhole) (X : Vec Ideal ⟨3, ![L, a, b]⟩ e) (l : ℕ) (hl : l < L) :
    (⟨2, ![a, b]⟩ : Shape).Idx → Elt Ideal e :=
  shapeCast ⟨2, ![a, b]⟩ (View.readAt (Elt Ideal) m.view (Rect.unit (s := ⟨3, ![L, a, b]⟩) ![l, 0, 0] ![1, a, b] (inb3 hl)).toLoadRect (h.unread X))
    (castDrop a b)

/-- Columns from `q` of a matrix, loaded. -/
def cols {a b c q : ℕ} {m : Memref sig .tc .vmem ⟨2, ![a, b]⟩ e} (h : m.IsWhole) (X : Vec Ideal ⟨2, ![a, b]⟩ e) (hq : q + c ≤ b) :
    (⟨2, ![a, c]⟩ : Shape).Idx → Elt Ideal e :=
  View.readAt (Elt Ideal) m.view (Rect.unit (s := ⟨2, ![a, b]⟩) ![0, q] ![a, c] (inb2 hq)).toLoadRect (h.unread X)

theorem page_reads {L a b : ℕ} {m : Memref sig .tc .vmem ⟨3, ![L, a, b]⟩ e} (h : m.IsWhole) {X : Vec Ideal ⟨3, ![L, a, b]⟩ e}
    {f : ℕ → ℕ → ℕ → Elt Ideal e} (hX : At3 X f) (l : ℕ) (hl : l < L) : At2 (page h X l hl) (f l) := by
  have h3 : At3 (a := 1) (b := a) (c := b) (View.readAt (Elt Ideal) m.view
      (Rect.unit (s := ⟨3, ![L, a, b]⟩) ![l, 0, 0] ![1, a, b] (inb3 hl)).toLoadRect (h.unread X)) (fun i j k => f (l + i) j k) := by
    intro i j k
    have h0 : i.val = 0 := by omega
    refine (h.readAt_unread X _ _).trans (Eq.trans (congrArg X ?_) (hX ⟨l + i.val, by omega⟩ j k))
    funext x; refine Fin.ext ?_
    match x with
    | ⟨0, _⟩ => exact congrArg (l + ·) (Nat.one_mul _)
    | ⟨1, _⟩ => exact (Nat.zero_add _).trans (Nat.one_mul _)
    | ⟨2, _⟩ => exact (Nat.zero_add _).trans (Nat.one_mul _)
  exact h3.drop (castDrop a b)

theorem cols_reads {a b c q : ℕ} {m : Memref sig .tc .vmem ⟨2, ![a, b]⟩ e} (h : m.IsWhole) {X : Vec Ideal ⟨2, ![a, b]⟩ e}
    {f : ℕ → ℕ → Elt Ideal e} (hX : At2 X f) (hq : q + c ≤ b) : At2 (cols h X hq) (fun i j => f i (q + j)) := by
  intro i j
  refine (h.readAt_unread X _ _).trans (Eq.trans (congrArg X ?_) (hX i ⟨q + j.val, by omega⟩))
  funext x; refine Fin.ext ?_
  match x with
  | ⟨0, _⟩ => exact (Nat.zero_add _).trans (Nat.one_mul _)
  | ⟨1, _⟩ => exact congrArg (q + ·) (Nat.one_mul _)

end Loads

/-! ## One-hot rows -/

theorem iotas (M N : ℕ) : (⟨2, ![M, N]⟩ : Shape).Iotas .tc 32 [1] :=
  ⟨List.nodup_singleton _, fun _ => ⟨Or.inr rfl, le_refl _⟩, fun h => absurd rfl h⟩

/-- The one-hot rows of a column of indices. -/
def hotK (M : ℕ) (ids : IVec (⟨2, ![M, 1]⟩ : Shape) 32) : Mat M 631 :=
  sitofp .f32 (extui 32 (cmpi .eq (broadcastTo ⟨2, ![M, 631]⟩ ids (bcCol M 631)) (iota .tc ⟨2, ![M, 631]⟩ 32 [1] (iotas M 631))) (by decide))

theorem hotK_reads {M : ℕ} {ids : IVec (⟨2, ![M, 1]⟩ : Shape) 32} {n : ℕ → ℕ → ℕ} (hn : ∀ i j, n i j < 631)
    (h : At2 ids fun i j => BitVec.ofNat 32 (n i j)) : R2 (hotK M ids) fun i j => if j = n i 0 then 1 else 0 := by
  intro i j
  have h1 := h.colTo (bcCol M 631) i j
  have h2 : iota .tc ⟨2, ![M, 631]⟩ 32 [1] (iotas M 631) (ix2 i j) = BitVec.ofNat 32 j.val := by
    show BitVec.ofNat 32 (0 * 631 + j.val) = _
    rw [Nat.zero_mul, Nat.zero_add]
  have hj := j.isLt
  have hi := hn i 0
  show (((((IntOp.cmpi .eq (broadcastTo ⟨2, ![M, 631]⟩ ids (bcCol M 631) (ix2 i j))
    (iota .tc ⟨2, ![M, 631]⟩ 32 [1] (iotas M 631) (ix2 i j))).setWidth 32).toInt : ℝ)) : EReal) = _
  rw [h1, h2]
  show ((((BitVec.ofBool (BitVec.ofNat 32 (n i 0) == BitVec.ofNat 32 j.val)).setWidth 32).toInt : ℝ) : EReal) = _
  by_cases hj' : j.val = n i 0
  · rw [hj']
    simp
  · have hne : (BitVec.ofNat 32 (n i 0) == BitVec.ofNat 32 j.val) = false := by
      rw [beq_eq_false_iff_ne]
      intro h
      have := congrArg BitVec.toNat h
      rw [BitVec.toNat_ofNat, BitVec.toNat_ofNat, Nat.mod_eq_of_lt (by omega), Nat.mod_eq_of_lt (by omega)] at this
      exact hj' this.symm
    rw [hne]
    simp [hj']

end Cert.Stages

end
-- ==== Proof.Body.lean ====
/- What the kernel's body computes at one grid point, stage by stage: each array its run names is a stage of the arrays before
   it and of the pages of the parameters. -/
module

public import proofs.«01_k».proof.Proof.Env
public import proofs.«01_k».proof.Proof.Embed
public import Idealize.ShloMosaic.Lib.VecWindow

@[expose] public section

noncomputable section

namespace Cert.KernelIdeal.Body.Env

open Idealize.ShloMosaic Cert.KernelIdeal Cert.KernelIdeal.Gen Cert.Stages

variable (E : Env)

/-- A bias row cast to its own shape and loaded whole. -/
abbrev rowOf {N : ℕ} {m : Memref sig .tc .vmem ⟨2, ![1, N]⟩ .f32} (h : m.IsWhole) (X : Vec Ideal ⟨2, ![1, N]⟩ .f32) : Mat 1 N :=
  shapeCast ⟨2, ![1, N]⟩ (cols h X (q := 0) (c := N) (le_of_eq (Nat.zero_add N))) rfl

theorem h_eq : E.h = addf (mmK 1152 631 512
      (hotK 1152 (page E.harg1 E.x0 0 (by decide))) (cols E.harg5 E.x4 (q := 0) (c := 512) (by decide)))
      (broadcastTo ⟨2, ![1152, 512]⟩ (rowOf E.harg6 E.x5) (bcRow 1152 512)) := rfl

/-- The query, key and value projections of the first layer. -/
abbrev qkv : Mat 1152 1536 := linK 1152 1536 E.h (page E.harg9 E.x8 0 (by decide)) (page E.harg10 E.x9 0 (by decide))

theorem q_eq : E.q = extractStridedSlice ⟨2, ![1152, 512]⟩ ![0, 0] E.qkv (slices2 (by decide) (by decide)) := rfl

theorem kv_eq : E.kv = extractStridedSlice ⟨2, ![1152, 1024]⟩ ![0, 512] E.qkv (slices2 (by decide) (by decide)) := rfl

theorem p_eq : E.p = softmaxK 9216 144 (scoresK (m := 144) (nq := 1152) rfl rfl E.q E.kv E.m1) := rfl

theorem a_eq : E.a = addf (addf E.h (mmK 1152 512 512 (ctxK (m := 144) rfl rfl E.p E.kv) (page E.harg11 E.x10 0 (by decide)))) (broadcastTo ⟨2, ![1152, 512]⟩ (page E.harg12 E.x11 0 (by decide)) (bcRow 1152 512)) := rfl

theorem y_eq : E.y = lnK 1152 E.a (page E.harg13 E.x12 0 (by decide)) (page E.harg14 E.x13 0 (by decide)) := rfl

theorem h2_eq : E.h2 = lnK 1152 (ffK 1152 E.y (page E.harg15 E.x14 0 (by decide)) (page E.harg16 E.x15 0 (by decide))
    (page E.harg17 E.x16 0 (by decide)) (page E.harg18 E.x17 0 (by decide))) (page E.harg19 E.x18 0 (by decide)) (page E.harg20 E.x19 0 (by decide)) := rfl

theorem kv2_eq : E.kv2 = linK 1152 1024 E.h2
    (extractStridedSlice ⟨2, ![512, 1024]⟩ ![0, 512] (page E.harg9 E.x8 1 (by decide)) (slices2 (by decide) (by decide)))
    (extractStridedSlice ⟨2, ![1, 1024]⟩ ![0, 512] (page E.harg10 E.x9 1 (by decide)) (slices2 (by decide) (by decide))) := rfl

theorem h20_eq : E.h20 = concatenate ⟨2, ![128, 512]⟩ 0 (List.ofFn fun c : Fin 8 => (⟨⟨2, ![16, 512]⟩,
    extractStridedSlice ⟨2, ![16, 512]⟩ ![144 * c.val, 0] E.h2 (slices2 (by omega) (by omega))⟩ : (s : Shape) × (s.Idx → EReal)))
    (concatsRows _ (by decide) rfl) := rfl

theorem q2_eq : E.q2 = linK 128 512 E.h20
    (extractStridedSlice ⟨2, ![512, 512]⟩ ![0, 0] (page E.harg9 E.x8 1 (by decide)) (slices2 (by decide) (by decide)))
    (extractStridedSlice ⟨2, ![1, 512]⟩ ![0, 0] (page E.harg10 E.x9 1 (by decide)) (slices2 (by decide) (by decide))) := rfl

theorem p2_eq : E.p2 = softmaxK 1024 144 (scoresK (m := 16) (nq := 128) rfl rfl E.q2 E.kv2 E.m2) := rfl

theorem s2_eq : E.s2 = addf E.h20 (mmK 128 512 512 (ctxK (m := 16) rfl rfl E.p2 E.kv2) (page E.harg11 E.x10 1 (by decide))) := rfl

/-- The attention of the second layer with the residual. -/
abbrev a2 : Mat 128 512 := addf E.s2 (broadcastTo ⟨2, ![128, 512]⟩ (page E.harg12 E.x11 1 (by decide)) (bcRow 128 512))

theorem y2_eq : E.y2 = lnK 128 E.a2 (page E.harg13 E.x12 1 (by decide)) (page E.harg14 E.x13 1 (by decide)) := rfl

theorem g_eq : E.g = mmK 128 512 512 (lnK 128 (ffK 128 E.y2 (page E.harg15 E.x14 1 (by decide)) (page E.harg16 E.x15 1 (by decide))
      (page E.harg17 E.x16 1 (by decide)) (page E.harg18 E.x17 1 (by decide))) (page E.harg19 E.x18 1 (by decide)) (page E.harg20 E.x19 1 (by decide)))
    (cols E.harg21 E.x20 (q := 0) (c := 512) (by decide)) := rfl

/-- The last linear map. -/
abbrev o : Mat 128 512 := addf E.g (broadcastTo ⟨2, ![128, 512]⟩ (rowOf E.harg22 E.x21) (bcRow 128 512))

/-- The nine one-hot rows of each token, side by side. -/
abbrev hot9 : Mat 128 5679 := concatenate ⟨2, ![128, 5679]⟩ 1 (List.ofFn fun s : Fin 9 => (⟨⟨2, ![128, 631]⟩,
    hotK 128 (shapeCast ⟨2, ![128, 1]⟩ (cols E.harg2 E.x1 (q := s.val) (c := 1) (by omega)) rfl)⟩ : (s : Shape) × (s.Idx → EReal)))
    (concatsCols _ (by decide) rfl)

theorem raw_eq : E.raw = addf (mmK 128 5679 512 E.hot9 (cols E.harg7 E.x6 (q := 0) (c := 512) (by decide)))
    (broadcastTo ⟨2, ![128, 512]⟩ (rowOf E.harg8 E.x7) (bcRow 128 512)) := rfl

theorem m1_eq : E.m1 = mulf (shapeCast ⟨2, ![144, 144]⟩ (cols E.harg3 E.x2 (q := 0) (c := 144) (by decide)) rfl)
    (broadcast ⟨2, ![144, 144]⟩ (Named.named (F := Ideal) κ "mask" (φ := .f32) 0xF149F2CA#32)) := rfl

theorem m2_eq : E.m2 = mulf (shapeCast ⟨2, ![16, 144]⟩ (cols E.harg4 E.x3 (q := 0) (c := 144) (by decide)) rfl)
    (broadcast ⟨2, ![16, 144]⟩ (Named.named (F := Ideal) κ "mask" (φ := .f32) 0xF149F2CA#32)) := rfl

set_option maxRecDepth 16384 in
/-- The block the body stores. -/
theorem out_eq : E.out = mulf E.raw (addf (broadcast ⟨2, ![128, 512]⟩ (Scalar.ofBits (F := Ideal) .f32 0x3F800000#32))
    (maximumf E.o (broadcast ⟨2, ![128, 512]⟩ (Scalar.ofBits (F := Ideal) .f32 0x00000000#32)))) := by
  delta Env.out out0_A_22 kernelRun0_A
  exact (View.read_writes_full VO0_22 _ _ _ _).trans rfl

end Cert.KernelIdeal.Body.Env

end
-- ==== Proof.Block.lean ====
/- The block the kernel's body stores, in terms of what its input blocks hold: for each token of the block the result of the two
   encoder layers, passed through the last linear map, scales the sum of the token's nine table rows. -/
module

public import proofs.«01_k».proof.Proof.Body

@[expose] public section

noncomputable section

namespace Cert.Spec

open scoped BigOperators

variable (xs : ℕ → ℕ → ℕ) (aw : ℕ → ℕ → ℝ) (ab : ℕ → ℝ) (P : ℕ → Params)

/-- The embedding of position `s` of token `t`. -/
def emb (t s d : ℕ) : ℝ := aw (xs t s) d + ab d

/-- What the first layer leaves. -/
def mid (t : ℕ) : ℕ → ℕ → ℝ := layer (P 0) (emb xs aw ab t)

/-- What the second layer leaves at position zero. -/
def cls (t : ℕ) : ℕ → ℝ := layer (P 1) (mid xs aw ab P t) 0

/-- The gate: the last linear map of the layers' result, over the extended reals. -/
def gate (fw : ℕ → ℕ → EReal) (fb : ℕ → EReal) (t j : ℕ) : EReal :=
  (∑ k ∈ Finset.range 512, ((cls xs aw ab P t k : ℝ) : EReal) * fw k j) + fb j

/-- The sum of the nine table rows of a token, plus the bias. -/
def rows9 (W : ℕ → ℕ → EReal) (b : ℕ → EReal) (t j : ℕ) : EReal := (∑ s ∈ Finset.range 9, W (631 * s + xs t s) j) + b j

/-- The result. -/
def result (W : ℕ → ℕ → EReal) (b : ℕ → EReal) (fw : ℕ → ℕ → EReal) (fb : ℕ → EReal) (t j : ℕ) : EReal :=
  rows9 xs W b t j * (1 + max (gate xs aw ab P fw fb t j) 0)

/-- A layer's result at a position depends on the nine positions alone. -/
theorem attn_eq (Q : Params) {X Y : ℕ → ℕ → ℝ} (h : ∀ s, s < 9 → X s = Y s) {s : ℕ} (hs : s < 9) : attn Q X s = attn Q Y s := by
  funext d
  unfold attn
  rw [h s hs, show ctx (qOf Q X) (kOf Q X) (vOf Q X) s = ctx (qOf Q Y) (kOf Q Y) (vOf Q Y) s from funext fun j =>
    ctx_congr j (fun j => by unfold qOf; rw [h s hs]) (fun t ht j => by unfold kOf; rw [h t ht]) (fun t ht => by unfold vOf; rw [h t ht])]

/-- A one-hot row times a column picks an entry. -/
theorem sum_hot (f : ℕ → EReal) {n m : ℕ} (hn : n < m) :
    ∑ r ∈ Finset.range m, (((if r = n then 1 else 0 : ℝ)) : EReal) * f r = f n := by
  rw [Finset.sum_eq_single_of_mem n (Finset.mem_range.mpr hn)]
  · rw [if_pos rfl, EReal.coe_one, one_mul]
  · intro r _ hr
    rw [if_neg hr, EReal.coe_zero, zero_mul]

theorem sum_hot_real (f : ℕ → ℝ) {n m : ℕ} (hn : n < m) :
    ∑ r ∈ Finset.range m, (if r = n then 1 else 0 : ℝ) * f r = f n := by
  rw [Finset.sum_eq_single_of_mem n (Finset.mem_range.mpr hn)]
  · rw [if_pos rfl, one_mul]
  · intro r _ hr
    rw [if_neg hr, zero_mul]

/-- A sum over a product range, one block after another. -/
theorem sum_blocks (f : ℕ → EReal) (m n : ℕ) :
    ∑ k ∈ Finset.range (m * n), f k = ∑ t ∈ Finset.range n, ∑ r ∈ Finset.range m, f (m * t + r) := by
  induction n with
  | zero => simp
  | succ n ih =>
    rw [Nat.mul_succ, Finset.sum_range_add, ih]
    exact (Finset.sum_range_succ (fun t => ∑ r ∈ Finset.range m, f (m * t + r)) n).symm

end Cert.Spec

namespace Cert.Stages

open Idealize.ShloMosaic Cert.Reading Cert.Spec
open scoped BigOperators

/-- A plain matrix product over the extended reals. -/
theorem mmK_at {M K N : ℕ} {x : Mat M K} {W : Mat K N} {f g : ℕ → ℕ → EReal} (hx : At2 x f) (hW : At2 W g) :
    At2 (mmK M K N x W) fun i j => ∑ k ∈ Finset.range K, f i k * g k j := by
  intro i j
  refine (congrArg _ (vix2 i j).symm).trans ((Ideal.matmul_plain_apply none x W _ i j).trans ?_)
  show Ideal.ofBits .f32 0x00000000#32 + _ = _
  rw [Ideal.ofBits_zero_f32, zero_add]
  refine Eq.trans ?_ (Finset.sum_range fun k => f i k * g k j).symm
  exact Finset.sum_congr rfl fun k _ => by rw [vix2, vix2, hx i k, hW k j]

/-- A sum of arrays over the extended reals. -/
theorem addf_at {a b : ℕ} {v w : Mat a b} {f g : ℕ → ℕ → EReal} (hv : At2 v f) (hw : At2 w g) :
    At2 (addf (F := Ideal) (φ := .f32) v w) fun i j => f i j + g i j :=
  fun i j => congrArg₂ (fun x y : EReal => x + y) (hv i j) (hw i j)

end Cert.Stages

namespace Cert.KernelIdeal.Body

open Idealize.ShloMosaic Cert.KernelIdeal Cert.KernelIdeal.Gen Cert.Stages Cert.Reading Cert.Spec

/-- A mask as it is handed over: zero where a row meets its own token, one elsewhere. -/
def IsFlag {a : ℕ} (v : Mat a 144) : Prop := At2 v fun i j => if j % 16 = i % 16 then (0 : EReal) else 1

/-- Scaled by minus infinity it is what the scores are masked with. -/
theorem IsFlag.scaled {a : ℕ} {v : Mat a 144} (h : IsFlag v) :
    IsMask (mulf (F := Ideal) (φ := .f32) v (broadcast ⟨2, ![a, 144]⟩ (Named.named (F := Ideal) κ "mask" (φ := .f32) 0xF149F2CA#32))) := by
  intro i j
  show (v (ix2 i j) : EReal) * (⊥ : EReal) = if j.val % 16 = i.val % 16 then (0 : EReal) else ⊥
  rw [h i j]
  show (if j.val % 16 = i.val % 16 then (0 : EReal) else 1) * ⊥ = _
  by_cases hij : j.val % 16 = i.val % 16
  · rw [if_pos hij, if_pos hij, zero_mul]
  · rw [if_neg hij, if_neg hij, one_mul]

/-- What the input blocks hold. -/
structure Reads (E : Env) (xs : ℕ → ℕ → ℕ) (aw : ℕ → ℕ → ℝ) (ab : ℕ → ℝ) (P : ℕ → Params)
    (W : ℕ → ℕ → EReal) (b : ℕ → EReal) (fw : ℕ → ℕ → EReal) (fb : ℕ → EReal) : Prop where
  lt : ∀ t s, xs t s < 631
  x0 : At3 E.x0 fun _ r _ => BitVec.ofNat 32 (xs (tok 144 r) (pos r))
  x1 : At2 E.x1 fun t s => BitVec.ofNat 32 (xs t s)
  x2 : IsFlag E.x2
  x3 : IsFlag E.x3
  x4 : R2 E.x4 aw
  x5 : R2 E.x5 fun _ => ab
  x6 : At2 E.x6 W
  x7 : At2 E.x7 fun _ => b
  x8 : R3 E.x8 fun l k j => (P l).Wqkv k j * qsc j
  x9 : R3 E.x9 fun l _ j => (P l).bqkv j * qsc j
  x10 : R3 E.x10 fun l => (P l).Wo
  x11 : R3 E.x11 fun l _ => (P l).bo
  x12 : R3 E.x12 fun l _ => (P l).g1
  x13 : R3 E.x13 fun l _ => (P l).b1
  x14 : R3 E.x14 fun l => (P l).W1
  x15 : R3 E.x15 fun l _ => (P l).c1
  x16 : R3 E.x16 fun l => (P l).W2
  x17 : R3 E.x17 fun l _ => (P l).c2
  x18 : R3 E.x18 fun l _ => (P l).g2
  x19 : R3 E.x19 fun l _ => (P l).b2
  x20 : At2 E.x20 fw
  x21 : At2 E.x21 fun _ => fb

namespace Reads

variable {E : Env} {xs : ℕ → ℕ → ℕ} {aw : ℕ → ℕ → ℝ} {ab : ℕ → ℝ} {P : ℕ → Params}
  {W : ℕ → ℕ → EReal} {b : ℕ → EReal} {fw : ℕ → ℕ → EReal} {fb : ℕ → EReal} (H : Reads E xs aw ab P W b fw fb)

include H

theorem mask1 : IsMask E.m1 := by
  rw [E.m1_eq]
  refine IsFlag.scaled fun i j => ?_
  have h := ((cols_reads E.harg3 H.x2 (q := 0) (c := 144) (by decide)).cast rfl) i j
  simpa only [Nat.zero_add] using h

theorem mask2 : IsMask E.m2 := by
  rw [E.m2_eq]
  refine IsFlag.scaled fun i j => ?_
  have h := ((cols_reads E.harg4 H.x3 (q := 0) (c := 144) (by decide)).cast rfl) i j
  simpa only [Nat.zero_add] using h

/-- The embeddings of the block, row by row. -/
theorem h : R2 E.h fun r d => emb xs aw ab (tok 144 r) (pos r) d := by
  rw [E.h_eq]
  have hh := hotK_reads (M := 1152) (n := fun r _ => xs (tok 144 r) (pos r)) (fun _ _ => H.lt _ _) (page_reads E.harg1 H.x0 0 (by decide))
  have hw := cols_reads E.harg5 H.x4 (q := 0) (c := 512) (by decide)
  have hb : R2 (Env.rowOf E.harg6 E.x5) _ := (cols_reads E.harg6 H.x5 (q := 0) (c := 512) (by decide)).cast rfl
  refine At2.congr ((hh.matmul hw).add (hb.rowTo (bcRow 1152 512) : R2 _ _)) fun r d _ _ => ?_
  simp only [Nat.zero_add]
  rw [sum_hot_real (fun k => aw k d) (H.lt _ _)]
  rfl

/-- The queries of the first layer. -/
theorem q : R2 E.q fun r => qOf (P 0) (emb xs aw ab (tok 144 r)) (pos r) := by
  rw [E.q_eq]
  have hl : R2 E.qkv _ := linK_reads H.h (page_reads E.harg9 H.x8 0 (by decide)) (page_reads E.harg10 H.x9 0 (by decide))
  refine At2.congr (hl.slice (slices2 (by decide) (by decide))) fun r j _ hj => ?_
  simp only [Nat.zero_add]
  rw [lin_scaled]
  unfold qsc qOf
  rw [if_pos hj, mul_one_div]

/-- Its keys and values. -/
theorem kv : R2 E.kv fun r j => lin (P 0).Wqkv (P 0).bqkv (emb xs aw ab (tok 144 r) (pos r)) (512 + j) := by
  rw [E.kv_eq]
  have hl : R2 E.qkv _ := linK_reads H.h (page_reads E.harg9 H.x8 0 (by decide)) (page_reads E.harg10 H.x9 0 (by decide))
  refine At2.congr (hl.slice (slices2 (by decide) (by decide))) fun r j _ hj => ?_
  simp only [Nat.zero_add]
  rw [lin_scaled]
  unfold qsc
  rw [if_neg (by omega), mul_one]

/-- What the attention of the first layer leaves. -/
theorem a : R2 E.a fun r => attn (P 0) (emb xs aw ab (tok 144 r)) (pos r) := by
  rw [E.a_eq, E.p_eq]
  refine At2.congr (resK_reads H.h (attnK_reads (m := 144) (nq := 1152) rfl rfl (by decide) (by decide) H.q H.kv H.mask1)
    (page_reads E.harg11 H.x10 0 (by decide)) (page_reads E.harg12 H.x11 0 (by decide))) fun r d _ _ => ?_
  refine congrArg (fun z => ((emb xs aw ab (tok 144 r) (pos r) d + lin (P 0).Wo (P 0).bo z d : ℝ) : EReal)) (funext fun j => ?_)
  refine ctx_congr j (fun _ => rfl) (fun t ht j => ?_) (fun t ht => ?_)
  · rw [tok_row ht, pos_row ht]; rfl
  · rw [tok_row ht, pos_row ht, ← Nat.add_assoc]; rfl

/-- What the first layer leaves. -/
theorem h2 : R2 E.h2 fun r => mid xs aw ab P (tok 144 r) (pos r) := by
  rw [E.h2_eq, E.y_eq]
  exact lnK_reads (ffK_reads (P 0) (lnK_reads H.a (page_reads E.harg13 H.x12 0 (by decide)) (page_reads E.harg14 H.x13 0 (by decide)))
    (page_reads E.harg15 H.x14 0 (by decide)) (page_reads E.harg16 H.x15 0 (by decide)) rfl
    (page_reads E.harg17 H.x16 0 (by decide)) (page_reads E.harg18 H.x17 0 (by decide)) rfl)
    (page_reads E.harg19 H.x18 0 (by decide)) (page_reads E.harg20 H.x19 0 (by decide))

/-- The keys and values of the second layer. -/
theorem kv2 : R2 E.kv2 fun r j => lin (P 1).Wqkv (P 1).bqkv (mid xs aw ab P (tok 144 r) (pos r)) (512 + j) := by
  rw [E.kv2_eq]
  refine At2.congr (linK_reads H.h2 ((page_reads E.harg9 H.x8 1 (by decide)).slice (slices2 (by decide) (by decide)))
    ((page_reads E.harg10 H.x9 1 (by decide)).slice (slices2 (by decide) (by decide)))) fun r j _ _ => ?_
  simp only [Nat.zero_add]
  refine congrArg (fun z : ℝ => (z : EReal)) ((lin_scaled _ _ (fun j => qsc (512 + j)) _ j).trans ?_)
  unfold qsc
  rw [if_neg (by omega), mul_one]
  rfl

/-- The rows of position zero. -/
theorem h20 : R2 E.h20 fun t => mid xs aw ab P t 0 := by
  rw [E.h20_eq]
  have hc : ∀ c : Fin 8, R2 (extractStridedSlice ⟨2, ![16, 512]⟩ ![144 * c.val, 0] E.h2 (slices2 (by omega) (by omega)))
      fun i j => mid xs aw ab P (tok 144 (144 * c.val + i)) (pos (144 * c.val + i)) j := fun c =>
    At2.congr (H.h2.slice (slices2 (a' := 16) (b' := 512) (p := 144 * c.val) (q := 0) (by omega) (by omega))) fun i j _ _ => by simp only [Nat.zero_add]
  refine At2.congr (At2.concatRows (φ := fun c i j => ((mid xs aw ab P (tok 144 (144 * c + i)) (pos (144 * c + i)) j : ℝ) : EReal))
    hc rfl (concatsRows _ (by decide) rfl)) fun t j ht _ => ?_
  have h1 : tok 144 (144 * (t / 16) + t % 16) = t := by unfold tok; omega
  have h2 : pos (144 * (t / 16) + t % 16) = 0 := by unfold pos; omega
  rw [h1, h2]

/-- Their queries. -/
theorem q2 : R2 E.q2 fun t => qOf (P 1) (mid xs aw ab P t) 0 := by
  rw [E.q2_eq]
  refine At2.congr (linK_reads H.h20 ((page_reads E.harg9 H.x8 1 (by decide)).slice (slices2 (by decide) (by decide)))
    ((page_reads E.harg10 H.x9 1 (by decide)).slice (slices2 (by decide) (by decide)))) fun r j _ hj => ?_
  simp only [Nat.zero_add]
  rw [lin_scaled]
  unfold qsc qOf
  rw [if_pos hj, mul_one_div]

/-- What the attention of the second layer leaves at position zero. -/
theorem a2 : R2 E.a2 fun t => attn (P 1) (mid xs aw ab P t) 0 := by
  unfold Env.a2
  rw [E.s2_eq, E.p2_eq]
  refine At2.congr (resK_reads H.h20 (attnK_reads (m := 16) (nq := 128) rfl rfl (by decide) (by decide) H.q2 H.kv2 H.mask2)
    (page_reads E.harg11 H.x10 1 (by decide)) (page_reads E.harg12 H.x11 1 (by decide))) fun r d _ _ => ?_
  refine congrArg (fun z => ((mid xs aw ab P r 0 d + lin (P 1).Wo (P 1).bo z d : ℝ) : EReal)) (funext fun j => ?_)
  have h16 : tok 16 r = r := by unfold tok; omega
  refine ctx_congr j (fun _ => rfl) (fun t ht j => ?_) (fun t ht => ?_)
  · rw [h16, tok_row ht, pos_row ht]; rfl
  · rw [h16, tok_row ht, pos_row ht, ← Nat.add_assoc]; rfl

/-- The gate. -/
theorem o : At2 E.o (gate xs aw ab P fw fb) := by
  unfold Env.o
  rw [E.g_eq, E.y2_eq]
  have hz := lnK_reads (ffK_reads (P 1) (lnK_reads H.a2 (page_reads E.harg13 H.x12 1 (by decide)) (page_reads E.harg14 H.x13 1 (by decide)))
    (page_reads E.harg15 H.x14 1 (by decide)) (page_reads E.harg16 H.x15 1 (by decide)) rfl
    (page_reads E.harg17 H.x16 1 (by decide)) (page_reads E.harg18 H.x17 1 (by decide)) rfl)
    (page_reads E.harg19 H.x18 1 (by decide)) (page_reads E.harg20 H.x19 1 (by decide))
  have hw := cols_reads E.harg21 H.x20 (q := 0) (c := 512) (by decide)
  have hb : At2 (Env.rowOf E.harg22 E.x21) _ := (cols_reads E.harg22 H.x21 (q := 0) (c := 512) (by decide)).cast rfl
  refine At2.congr (addf_at (mmK_at hz hw) (hb.rowTo (bcRow 128 512))) fun t j _ _ => ?_
  simp only [Nat.zero_add]
  rfl

/-- The nine one-hot rows side by side. -/
theorem hot : R2 E.hot9 fun t k => if k % 631 = xs t (k / 631) then 1 else 0 :=
  At2.concatCols (φ := fun s t k => (((if k = xs t s then 1 else 0 : ℝ)) : EReal))
    (fun s : Fin 9 => hotK_reads (n := fun t j => xs t (s.val + j)) (fun _ _ => H.lt _ _)
      ((cols_reads E.harg2 H.x1 (q := s.val) (c := 1) (by omega)).cast rfl)) rfl (concatsCols _ (by decide) rfl)

/-- The sums of table rows. -/
theorem raw : At2 E.raw (rows9 xs W b) := by
  rw [E.raw_eq]
  have hw := cols_reads E.harg7 H.x6 (q := 0) (c := 512) (by decide)
  have hb : At2 (Env.rowOf E.harg8 E.x7) _ := (cols_reads E.harg8 H.x7 (q := 0) (c := 512) (by decide)).cast rfl
  refine At2.congr (addf_at (mmK_at H.hot hw) (hb.rowTo (bcRow 128 512))) fun t j _ _ => ?_
  simp only [Nat.zero_add]
  unfold rows9
  refine congrArg (· + b j) ?_
  rw [show 5679 = 631 * 9 from rfl, sum_blocks]
  refine Finset.sum_congr rfl fun s _ => ?_
  refine Eq.trans (Finset.sum_congr rfl fun r hr => ?_) (sum_hot (fun r => W (631 * s + r) j) (H.lt t s))
  have hr := Finset.mem_range.mp hr
  have h1 : (631 * s + r) % 631 = r := by omega
  have h2 : (631 * s + r) / 631 = s := by omega
  rw [h1, h2]

/-- The block the body stores. -/
theorem out : At2 E.out (result xs aw ab P W b fw fb) := by
  rw [E.out_eq]
  intro t j
  show (E.raw (ix2 t j) : EReal) * (Ideal.ofBits .f32 0x3F800000#32 + max (E.o (ix2 t j)) (Ideal.ofBits .f32 0x00000000#32)) = _
  rw [Ideal.ofBits_zero_f32, Ideal.ofBits_one_f32, H.raw t j, H.o t j]
  rfl

end Reads

end Cert.KernelIdeal.Body

end
-- ==== Proof.Args.lean ====
/- What the argument arrays hold: the indices as naturals below 631, the arrays the encoder layers read as reals, the others as
   extended reals. Both programs are read from this one description. -/
module

public import proofs.«01_k».proof.Proof.Block

@[expose] public section

noncomputable section

namespace Cert.Spec

open Idealize.ShloMosaic Cert.Reading

/-- What the nineteen argument arrays hold. -/
structure Args (xs : ℕ → ℕ → ℕ) (aw : ℕ → ℕ → ℝ) (ab : ℕ → ℝ) (P : ℕ → Params) (W : ℕ → ℕ → EReal) (b : ℕ → EReal)
    (fw : ℕ → ℕ → EReal) (fb : ℕ → EReal)
    (x : (⟨3, ![32, 256, 9]⟩ : Shape).Idx → BitVec 32) (a1 : (⟨2, ![5679, 512]⟩ : Shape).Idx → EReal)
    (a2 : (⟨1, ![512]⟩ : Shape).Idx → EReal) (a3 : (⟨2, ![631, 512]⟩ : Shape).Idx → EReal) (a4 : (⟨1, ![512]⟩ : Shape).Idx → EReal)
    (a5 : (⟨3, ![2, 512, 1536]⟩ : Shape).Idx → EReal) (a6 : (⟨2, ![2, 1536]⟩ : Shape).Idx → EReal)
    (a7 : (⟨3, ![2, 512, 512]⟩ : Shape).Idx → EReal) (a8 a9 a10 : (⟨2, ![2, 512]⟩ : Shape).Idx → EReal)
    (a11 : (⟨3, ![2, 512, 512]⟩ : Shape).Idx → EReal) (a12 : (⟨2, ![2, 512]⟩ : Shape).Idx → EReal)
    (a13 : (⟨3, ![2, 512, 512]⟩ : Shape).Idx → EReal) (a14 a15 a16 : (⟨2, ![2, 512]⟩ : Shape).Idx → EReal)
    (a17 : (⟨2, ![512, 512]⟩ : Shape).Idx → EReal) (a18 : (⟨1, ![512]⟩ : Shape).Idx → EReal) : Prop where
  lt : ∀ n s, xs n s < 631
  x : At3 x fun i t s => BitVec.ofNat 32 (xs (256 * i + t) s)
  a1 : At2 a1 W
  a2 : At1 a2 b
  a3 : R2 a3 aw
  a4 : At1 a4 fun j => ((ab j : ℝ) : EReal)
  a5 : R3 a5 fun l => (P l).Wqkv
  a6 : R2 a6 fun l => (P l).bqkv
  a7 : R3 a7 fun l => (P l).Wo
  a8 : R2 a8 fun l => (P l).bo
  a9 : R2 a9 fun l => (P l).g1
  a10 : R2 a10 fun l => (P l).b1
  a11 : R3 a11 fun l => (P l).W1
  a12 : R2 a12 fun l => (P l).c1
  a13 : R3 a13 fun l => (P l).W2
  a14 : R2 a14 fun l => (P l).c2
  a15 : R2 a15 fun l => (P l).g2
  a16 : R2 a16 fun l => (P l).b2
  a17 : At2 a17 fw
  a18 : At1 a18 fb

end Cert.Spec

end
-- ==== Proof.Host.lean ====
/- What the arrays hold that the program prepares before the grid runs: the indices flattened and regrouped, the two masks, the
   scaled query columns, the bias vectors as rows. -/
module

public import proofs.«01_k».proof.Proof.Args
public import Idealize.ShloMosaic.Lib.Claim
public import Idealize.ShloMosaic.Lib.StableHlo.ReadAt

@[expose] public section

noncomputable section

namespace Cert.Reading

open Idealize.ShloMosaic

variable {α : Type}

/-- A vector as one row. -/
theorem At1.row {b : ℕ} {v : (⟨1, ![b]⟩ : Shape).Idx → α} {f : ℕ → α} (h : At1 v f) (hs : (⟨1, ![b]⟩ : Shape).ShapeCasts ⟨2, ![1, b]⟩) :
    At2 (shapeCast ⟨2, ![1, b]⟩ v hs) fun _ j => f j := by
  intro i j
  rw [shapeCast_apply v hs (ix2 i j) (ix1 j) (by
    rw [Shape.rowMajor_val_one, Shape.rowMajor_val_two]
    have hi : i.val = 0 := by have := i.isLt; omega
    show j.val = i.val * b + j.val
    rw [hi, Nat.zero_mul, Nat.zero_add])]
  exact h _

/-- The rows of a matrix, each as a one-row matrix. -/
theorem At2.rows {a b : ℕ} {v : (⟨2, ![a, b]⟩ : Shape).Idx → α} {f : ℕ → ℕ → α} (h : At2 v f)
    (hs : (⟨2, ![a, b]⟩ : Shape).ShapeCasts ⟨3, ![a, 1, b]⟩) : At3 (shapeCast ⟨3, ![a, 1, b]⟩ v hs) fun i _ j => f i j := by
  intro i z j
  rw [shapeCast_apply v hs (ix3 i z j) (ix2 i j) (by
    rw [Shape.rowMajor_val_three, Shape.rowMajor_val_two]
    have hz : z.val = 0 := by have := z.isLt; omega
    show i.val * b + j.val = (i.val * 1 + z.val) * b + j.val
    rw [hz, Nat.mul_one, Nat.add_zero])]
  exact h _ _

/-- Two leading axes merged. -/
theorem At3.merge {a b c n : ℕ} {v : (⟨3, ![a, b, c]⟩ : Shape).Idx → α} {f : ℕ → ℕ → ℕ → α} (h : At3 v f)
    (hs : (⟨3, ![a, b, c]⟩ : Shape).ShapeCasts ⟨2, ![n, c]⟩) (hn : n = a * b) :
    At2 (shapeCast ⟨2, ![n, c]⟩ v hs) fun i k => f (i / b) (i % b) k := by
  intro i k
  have hb : 0 < b := by
    rcases Nat.eq_zero_or_pos b with h0 | h0
    · subst h0; have := i.isLt; omega
    · exact h0
  have hq : i.val / b < a := by rw [Nat.div_lt_iff_lt_mul hb, ← hn]; exact i.isLt
  rw [shapeCast_apply v hs (ix2 i k) (ix3 ⟨i.val / b, hq⟩ ⟨i.val % b, Nat.mod_lt _ hb⟩ k) (by
    rw [Shape.rowMajor_val_three, Shape.rowMajor_val_two]
    show (i.val / b * b + i.val % b) * c + k.val = i.val * c + k.val
    rw [Nat.div_add_mod'])]
  exact h _ _ _

end Cert.Reading

namespace Cert.KernelIdeal.Host

open Cert.KernelIdeal Cert.KernelIdeal.Gen Idealize.ShloMosaic Idealize.ShloMosaic.TcCoe Cert.Reading Cert.Spec

/-! ## The indices -/

/-- The indices by block, group, position and token of the group, flattened to the rows of the blocks. -/
theorem regroup {v : S8192x9.Idx → BitVec 32} {f : ℕ → ℕ → BitVec 32} (h : At2 v f) :
    At3 (shapeCast S64x1152x1 (transpose S64x8x9x16 [0, 1, 3, 2] (shapeCast S64x8x16x9 v shapeCasts_S8192x9_S64x8x16x9)
      transposes_S64x8x16x9_S64x8x9x16_0_1_3_2) shapeCasts_S64x8x9x16_S64x1152x1)
      fun t r _ => f (128 * t + tok 144 r) (pos r) := by
  intro t r z
  have ht := t.isLt
  have hr := r.isLt
  have hz := z.isLt
  rw [shapeCast_apply _ shapeCasts_S64x8x9x16_S64x1152x1 (ix3 t r z)
      (ix4 t (⟨r.val / 144, by omega⟩ : Fin 8) (⟨r.val % 144 / 16, by omega⟩ : Fin 9) (⟨r.val % 16, by omega⟩ : Fin 16)) (by
        rw [Shape.rowMajor_val_three, Shape.rowMajor_val_four]
        show ((t.val * 8 + r.val / 144) * 9 + r.val % 144 / 16) * 16 + r.val % 16 = (t.val * 1152 + r.val) * 1 + z.val
        omega),
    transpose_apply [0, 1, 3, 2] _ transposes_S64x8x16x9_S64x8x9x16_0_1_3_2 _
      (ix4 t (⟨r.val / 144, by omega⟩ : Fin 8) (⟨r.val % 16, by omega⟩ : Fin 16) (⟨r.val % 144 / 16, by omega⟩ : Fin 9))
      (fun b => match b with | ⟨0, _⟩ => rfl | ⟨1, _⟩ => rfl | ⟨2, _⟩ => rfl | ⟨3, _⟩ => rfl),
    shapeCast_apply v shapeCasts_S8192x9_S64x8x16x9 _
      (ix2 (⟨128 * t.val + tok 144 r.val, by unfold tok; omega⟩ : Fin 8192) (⟨pos r.val, by unfold pos; omega⟩ : Fin 9)) (by
        rw [Shape.rowMajor_val_two, Shape.rowMajor_val_four]
        show (128 * t.val + (16 * (r.val / 144) + r.val % 16)) * 9 + r.val % 144 / 16
          = ((t.val * 8 + r.val / 144) * 16 + r.val % 16) * 9 + r.val % 144 / 16
        omega)]
  exact h _ _

/-! ## The masks -/

/-- The remainder by 16 as the program computes it, on one word. -/
def rem16 (x : BitVec 32) : BitVec 32 :=
  let d : BitVec 32 := Scalar.select (IntOp.cmpi .eq (16#32) (0#32)) (1#32) (16#32)
  let r := IntOp.remsi .host x d
  Scalar.select (IntOp.andi (IntOp.cmpi .ne (IntOp.cmpi .slt r (0#32)) (IntOp.cmpi .slt d (0#32))) (IntOp.cmpi .ne r (0#32))) (IntOp.addi r d) r

theorem rem16_eq : ∀ i : Fin 144, rem16 (BitVec.ofNat 32 i) = BitVec.ofNat 32 (i.val % 16) := by decide +kernel

/-- The flag of two words: zero where they agree, one elsewhere. -/
theorem flag_eq {a b : ℕ} (ha : a < 16) (hb : b < 16) :
    (Scalar.select (IntOp.cmpi .eq (BitVec.ofNat 32 a) (BitVec.ofNat 32 b)) (Ideal.ofBits .f32 0x00000000#32) (Ideal.ofBits .f32 0x3F800000#32) : EReal)
      = if b = a then 0 else 1 := by
  rw [Ideal.ofBits_zero_f32, Ideal.ofBits_one_f32]
  have hc : ∀ a b : Fin 16, IntOp.cmpi .eq (BitVec.ofNat 32 a) (BitVec.ofNat 32 b) = if b = a then 1#1 else 0#1 := by decide
  rw [hc ⟨a, ha⟩ ⟨b, hb⟩]
  by_cases hab : b = a
  · rw [if_pos hab, if_pos (Fin.ext hab)]; rfl
  · rw [if_neg hab, if_neg (fun h => hab (congrArg Fin.val h))]; rfl

/-! ## The scaled query columns -/

/-- The column scales: one eighth on the query columns. -/
def qscale : S1536.Idx → EReal :=
  concatenate S1536 0 [⟨S512, broadcastInDim S512 ![] bcast_S_S512 (constant (F := Ideal) S_ .f32 0x3E000000#32)⟩,
    ⟨S1024, broadcastInDim S1024 ![] bcast_S_S1024 (constant (F := Ideal) S_ .f32 0x3F800000#32)⟩] concatenates_S512_S1024_S1536_d0

theorem eighth : Ideal.ofBits .f32 0x3E000000#32 = ((1 / 8 : ℝ) : EReal) := by
  simp [Ideal.ofBits, Ideal.ieee, -EReal.coe_mul]; norm_num

theorem qscale_at : At1 qscale fun j => ((qsc j : ℝ) : EReal) := by
  intro j
  unfold qscale qsc
  by_cases hj : j.val < 512
  · rw [concatenate_pair_apply_left (t := S1536) (s₁ := S512) (s₂ := S1024) 0 _ _ _ (ix1 j) rfl (ix1 ⟨j.val, hj⟩)
      (fun b => match b with | ⟨0, _⟩ => rfl)]
    show Ideal.ofBits .f32 0x3E000000#32 = (((if j.val < 512 then 1 / 8 else 1 : ℝ)) : EReal)
    rw [if_pos hj, eighth]
  · have hj' := j.isLt
    rw [concatenate_pair_apply_right (t := S1536) (s₁ := S512) (s₂ := S1024) 0 _ _ _ (ix1 j) rfl rfl (ix1 ⟨j.val - 512, by omega⟩)
      (fun b hb => match b with | ⟨0, _⟩ => absurd rfl hb) (by show j.val - 512 + 512 = j.val; omega)]
    show Ideal.ofBits .f32 0x3F800000#32 = (((if j.val < 512 then 1 / 8 else 1 : ℝ)) : EReal)
    rw [if_neg hj, Ideal.ofBits_one_f32, EReal.coe_one]

/-- The scales along the columns of the projection matrices. -/
theorem qscale3 : R3 (broadcastInDim S2x512x1536 ![0, 1, 2] bcast_S1x1x1536_S2x512x1536_0_1_2
    (broadcastInDim S1x1x1536 ![2] bcast_S1536_S1x1x1536_2 qscale)) fun _ _ j => qsc j := by
  intro l k j
  rw [broadcastInDim_apply _ _ _ (ix3 l k j) (ix3 (0 : Fin 1) (0 : Fin 1) j)
      (fun b => match b with | ⟨0, _⟩ => rfl | ⟨1, _⟩ => rfl | ⟨2, _⟩ => rfl),
    broadcastInDim_apply _ _ _ _ (ix1 j) (fun b => match b with | ⟨0, _⟩ => rfl)]
  exact qscale_at j

/-- The scales along the projection biases. -/
theorem qscale2 : R2 (broadcastInDim S2x1536 ![0, 1] bcast_S1x1536_S2x1536_0_1
    (broadcastInDim S1x1536 ![1] bcast_S1536_S1x1536_1 qscale)) fun _ j => qsc j := by
  intro l j
  rw [broadcastInDim_apply _ _ _ (ix2 l j) (ix2 (0 : Fin 1) j)
      (fun b => match b with | ⟨0, _⟩ => rfl | ⟨1, _⟩ => rfl),
    broadcastInDim_apply _ _ _ _ (ix1 j) (fun b => match b with | ⟨0, _⟩ => rfl)]
  exact qscale_at j

/-! ## The arrays before the grid runs -/

variable (m : (ℓ : Loc nD τ sig) → Buf (Elt Ideal) ℓ) (c : Dev nD)

theorem tokens : (V m c main_v0 : S8192x9.Idx → BitVec 32)
    = shapeCast S8192x9 (m ((c : Thread nD τ).loc main_arg0) : S32x256x9.Idx → BitVec 32) shapeCasts_S32x256x9_S8192x9 := by
  unfold V
  simp only [List.flatten_cons, List.flatten_nil, List.append_nil]
  after_reads_simp
  rfl

theorem grouped : (V m c main_v3 : S64x1152x1.Idx → BitVec 32)
    = shapeCast S64x1152x1 (transpose S64x8x9x16 [0, 1, 3, 2] (shapeCast S64x8x16x9
        (shapeCast S8192x9 (m ((c : Thread nD τ).loc main_arg0) : S32x256x9.Idx → BitVec 32) shapeCasts_S32x256x9_S8192x9)
        shapeCasts_S8192x9_S64x8x16x9) transposes_S64x8x16x9_S64x8x9x16_0_1_3_2) shapeCasts_S64x8x9x16_S64x1152x1 := by
  unfold V
  simp only [List.flatten_cons, List.flatten_nil, List.append_nil]
  after_reads_simp
  rfl

theorem flags1 (i j : Fin 144) : (V m c main_v19 : S144x144.Idx → EReal) (ix2 i j)
    = Scalar.select (IntOp.cmpi .eq (rem16 (BitVec.ofNat 32 i)) (rem16 (BitVec.ofNat 32 j)))
        (Ideal.ofBits .f32 0x00000000#32) (Ideal.ofBits .f32 0x3F800000#32) := by
  unfold V
  simp only [List.flatten_cons, List.flatten_nil, List.append_nil]
  after_reads_simp
  simp -implicitDefEqProofs only [StableHlo.TRef.toBuf, StableHlo.TRef.ofBuf, cast_cast, cast_eq]
  rfl

theorem flags2 (i : Fin 16) (j : Fin 144) : (V m c main_v25 : S16x144.Idx → EReal) (ix2 i j)
    = Scalar.select (IntOp.cmpi .eq (BitVec.ofNat 32 i) (rem16 (BitVec.ofNat 32 j)))
        (Ideal.ofBits .f32 0x00000000#32) (Ideal.ofBits .f32 0x3F800000#32) := by
  unfold V
  simp only [List.flatten_cons, List.flatten_nil, List.append_nil]
  after_reads_simp
  simp -implicitDefEqProofs only [StableHlo.TRef.toBuf, StableHlo.TRef.ofBuf, cast_cast, cast_eq]
  rfl

theorem isFlag1 : Body.IsFlag (V m c main_v19 : S144x144.Idx → EReal) := by
  intro i j
  rw [flags1, rem16_eq, rem16_eq]
  exact flag_eq (Nat.mod_lt _ (by decide)) (Nat.mod_lt _ (by decide))

theorem isFlag2 : Body.IsFlag (V m c main_v25 : S16x144.Idx → EReal) := by
  intro i j
  rw [flags2, rem16_eq, flag_eq i.isLt (Nat.mod_lt _ (by decide))]
  show _ = if j.val % 16 = i.val % 16 then (0 : EReal) else 1
  rw [Nat.mod_eq_of_lt i.isLt]

theorem weights : (V m c main_v9 : S2x512x1536.Idx → EReal)
    = mulf (F := Ideal) (φ := .f32) (m ((c : Thread nD τ).loc main_arg5) : S2x512x1536.Idx → EReal)
      (broadcastInDim S2x512x1536 ![0, 1, 2] bcast_S1x1x1536_S2x512x1536_0_1_2 (broadcastInDim S1x1x1536 ![2] bcast_S1536_S1x1x1536_2 qscale)) := by
  unfold V
  simp only [List.flatten_cons, List.flatten_nil, List.append_nil]
  after_reads_simp
  rfl

theorem biases : (V m c main_v28 : S2x1x1536.Idx → EReal)
    = shapeCast S2x1x1536 (mulf (F := Ideal) (φ := .f32) (m ((c : Thread nD τ).loc main_arg6) : S2x1536.Idx → EReal)
      (broadcastInDim S2x1536 ![0, 1] bcast_S1x1536_S2x1536_0_1 (broadcastInDim S1x1536 ![1] bcast_S1536_S1x1536_1 qscale)))
      shapeCasts_S2x1536_S2x1x1536 := by
  unfold V
  simp only [List.flatten_cons, List.flatten_nil, List.append_nil]
  after_reads_simp
  rfl

/-- The vectors the call takes as rows: each is an argument with a unit axis. -/
structure Rows : Prop where
  row26 : (V m c main_v26 : S1x512.Idx → EReal) = shapeCast S1x512 (m ((c : Thread nD τ).loc main_arg4) : S512.Idx → EReal) shapeCasts_S512_S1x512
  row27 : (V m c main_v27 : S1x512.Idx → EReal) = shapeCast S1x512 (m ((c : Thread nD τ).loc main_arg2) : S512.Idx → EReal) shapeCasts_S512_S1x512
  row36 : (V m c main_v36 : S1x512.Idx → EReal) = shapeCast S1x512 (m ((c : Thread nD τ).loc main_arg18) : S512.Idx → EReal) shapeCasts_S512_S1x512
  row29 : (V m c main_v29 : S2x1x512.Idx → EReal) = shapeCast S2x1x512 (m ((c : Thread nD τ).loc main_arg8) : S2x512.Idx → EReal) shapeCasts_S2x512_S2x1x512
  row30 : (V m c main_v30 : S2x1x512.Idx → EReal) = shapeCast S2x1x512 (m ((c : Thread nD τ).loc main_arg9) : S2x512.Idx → EReal) shapeCasts_S2x512_S2x1x512
  row31 : (V m c main_v31 : S2x1x512.Idx → EReal) = shapeCast S2x1x512 (m ((c : Thread nD τ).loc main_arg10) : S2x512.Idx → EReal) shapeCasts_S2x512_S2x1x512
  row32 : (V m c main_v32 : S2x1x512.Idx → EReal) = shapeCast S2x1x512 (m ((c : Thread nD τ).loc main_arg12) : S2x512.Idx → EReal) shapeCasts_S2x512_S2x1x512
  row33 : (V m c main_v33 : S2x1x512.Idx → EReal) = shapeCast S2x1x512 (m ((c : Thread nD τ).loc main_arg14) : S2x512.Idx → EReal) shapeCasts_S2x512_S2x1x512
  row34 : (V m c main_v34 : S2x1x512.Idx → EReal) = shapeCast S2x1x512 (m ((c : Thread nD τ).loc main_arg15) : S2x512.Idx → EReal) shapeCasts_S2x512_S2x1x512
  row35 : (V m c main_v35 : S2x1x512.Idx → EReal) = shapeCast S2x1x512 (m ((c : Thread nD τ).loc main_arg16) : S2x512.Idx → EReal) shapeCasts_S2x512_S2x1x512

theorem rows : Rows m c := by
  constructor <;>
  · unfold V
    simp only [List.flatten_cons, List.flatten_nil, List.append_nil]
    after_reads_simp
    rfl

end Cert.KernelIdeal.Host

end
-- ==== Proof.Array.lean ====
/- What the kernel's output array holds after the run: block by block what the body stores, at each token and column one function of
   the argument arrays. -/
module

public import proofs.«01_k».proof.Proof.Host

@[expose] public section

noncomputable section

namespace Cert.KernelIdeal.Array

open Cert.KernelIdeal Cert.KernelIdeal.Gen Idealize.ShloMosaic Idealize.ShloMosaic.TcCoe Cert.Reading Cert.Spec

variable (m : (ℓ : Loc nD τ sig) → Buf (Elt Ideal) ℓ) (c : Dev nD)

/-- What the body is run at at point `t`. -/
def envAt (t : Fin cfg0.N) : Body.Env :=
  ⟨c, grid0.coords t, ms0_0 t, hs0_0 t, ms0_1 t, hs0_1 t, ms0_2 t, hs0_2 t, ms0_3 t, hs0_3 t, ms0_4 t, hs0_4 t, ms0_5 t, hs0_5 t, ms0_6 t,
    hs0_6 t, ms0_7 t, hs0_7 t, ms0_8 t, hs0_8 t, ms0_9 t, hs0_9 t, ms0_10 t, hs0_10 t, ms0_11 t, hs0_11 t, ms0_12 t, hs0_12 t, ms0_13 t, hs0_13
    t, ms0_14 t, hs0_14 t, ms0_15 t, hs0_15 t, ms0_16 t, hs0_16 t, ms0_17 t, hs0_17 t, ms0_18 t, hs0_18 t, ms0_19 t, hs0_19 t, ms0_20 t, hs0_20
    t, ms0_21 t, hs0_21 t, ms0_22 t, hs0_22 t, scM0_0, Memref.isWhole_whole _, iblk m c 0 t, iblk m c 1 t, iblk m c 2 t, iblk m c 3 t, iblk m c
    4 t, iblk m c 5 t, iblk m c 6 t, iblk m c 7 t, iblk m c 8 t, iblk m c 9 t, iblk m c 10 t, iblk m c 11 t, iblk m c 12 t, iblk m c 13 t, iblk
    m c 14 t, iblk m c 15 t, iblk m c 16 t, iblk m c 17 t, iblk m c 18 t, iblk m c 19 t, iblk m c 20 t, iblk m c 21 t⟩

theorem outs_eq (t : Fin cfg0.N) : outsAt0 m c t = (envAt m c t).out := by
  delta outsAt0 envAt Body.Env.out
  dsimp only

/-! ## The blocks the body reads -/

theorem index_rows : ∀ t : Fin cfg0.N, win0_0.index t = ![t.val, 0, 0] ∧ win0_1.index t = ![t.val, 0] ∧ win0_22.index t = ![t.val, 0] :=
  (by decide +kernel : ∀ t : Fin grid0.N, _)

theorem index_whole : ∀ t : Fin cfg0.N, win0_2.index t = ![0, 0] ∧ win0_3.index t = ![0, 0] ∧ win0_4.index t = ![0, 0] ∧ win0_5.index t = ![0, 0] ∧ win0_6.index t = ![0, 0] ∧
    win0_7.index t = ![0, 0] ∧ win0_8.index t = ![0, 0, 0] ∧ win0_9.index t = ![0, 0, 0] ∧ win0_10.index t = ![0, 0, 0] ∧ win0_11.index t = ![0,
    0, 0] ∧ win0_12.index t = ![0, 0, 0] ∧ win0_13.index t = ![0, 0, 0] ∧ win0_14.index t = ![0, 0, 0] ∧ win0_15.index t = ![0, 0, 0] ∧
    win0_16.index t = ![0, 0, 0] ∧ win0_17.index t = ![0, 0, 0] ∧ win0_18.index t = ![0, 0, 0] ∧ win0_19.index t = ![0, 0, 0] ∧ win0_20.index t
    = ![0, 0] ∧ win0_21.index t = ![0, 0] :=
  (by decide +kernel : ∀ t : Fin grid0.N, _)

/-- The indices of the block, row by row. -/
theorem block0 (t : Fin cfg0.N) (r : Fin 1152) (z : Fin 1) :
    iblk m c 0 t (ix3 (0 : Fin 1) r z) = V m c main_v3 (ix3 (⟨t.val, t.isLt⟩ : Fin 64) r z) := by
  blk_point [iblk, (index_rows t).1]

/-- The indices of the block, token by token. -/
theorem block1 (t : Fin cfg0.N) (i : Fin 128) (j : Fin 9) : iblk m c 1 t (ix2 i j)
    = V m c main_v0 (ix2 (⟨128 * t.val + i.val, by have h : t.val < 64 := t.isLt; have := i.isLt; omega⟩ : Fin 8192) j) := by
  blk_point [iblk, (index_rows t).2.1]

/-! The other input blocks are whole arrays. -/

theorem block2 (t : Fin cfg0.N) : iblk m c 2 t = V m c main_v19 := by blk_ext! [iblk, (index_whole t).1]
theorem block3 (t : Fin cfg0.N) : iblk m c 3 t = V m c main_v25 := by blk_ext! [iblk, (index_whole t).2.1]
theorem block4 (t : Fin cfg0.N) : iblk m c 4 t = V m c main_arg3 := by blk_ext! [iblk, (index_whole t).2.2.1]
theorem block5 (t : Fin cfg0.N) : iblk m c 5 t = V m c main_v26 := by blk_ext! [iblk, (index_whole t).2.2.2.1]
theorem block6 (t : Fin cfg0.N) : iblk m c 6 t = V m c main_arg1 := by blk_ext! [iblk, (index_whole t).2.2.2.2.1]
theorem block7 (t : Fin cfg0.N) : iblk m c 7 t = V m c main_v27 := by blk_ext! [iblk, (index_whole t).2.2.2.2.2.1]
theorem block8 (t : Fin cfg0.N) : iblk m c 8 t = V m c main_v9 := by blk_ext! [iblk, (index_whole t).2.2.2.2.2.2.1]
theorem block9 (t : Fin cfg0.N) : iblk m c 9 t = V m c main_v28 := by blk_ext! [iblk, (index_whole t).2.2.2.2.2.2.2.1]
theorem block10 (t : Fin cfg0.N) : iblk m c 10 t = V m c main_arg7 := by blk_ext! [iblk, (index_whole t).2.2.2.2.2.2.2.2.1]
theorem block11 (t : Fin cfg0.N) : iblk m c 11 t = V m c main_v29 := by blk_ext! [iblk, (index_whole t).2.2.2.2.2.2.2.2.2.1]
theorem block12 (t : Fin cfg0.N) : iblk m c 12 t = V m c main_v30 := by blk_ext! [iblk, (index_whole t).2.2.2.2.2.2.2.2.2.2.1]
theorem block13 (t : Fin cfg0.N) : iblk m c 13 t = V m c main_v31 := by blk_ext! [iblk, (index_whole t).2.2.2.2.2.2.2.2.2.2.2.1]
theorem block14 (t : Fin cfg0.N) : iblk m c 14 t = V m c main_arg11 := by blk_ext! [iblk, (index_whole t).2.2.2.2.2.2.2.2.2.2.2.2.1]
theorem block15 (t : Fin cfg0.N) : iblk m c 15 t = V m c main_v32 := by blk_ext! [iblk, (index_whole t).2.2.2.2.2.2.2.2.2.2.2.2.2.1]
theorem block16 (t : Fin cfg0.N) : iblk m c 16 t = V m c main_arg13 := by blk_ext! [iblk, (index_whole t).2.2.2.2.2.2.2.2.2.2.2.2.2.2.1]
theorem block17 (t : Fin cfg0.N) : iblk m c 17 t = V m c main_v33 := by blk_ext! [iblk, (index_whole t).2.2.2.2.2.2.2.2.2.2.2.2.2.2.2.1]
theorem block18 (t : Fin cfg0.N) : iblk m c 18 t = V m c main_v34 := by blk_ext! [iblk, (index_whole t).2.2.2.2.2.2.2.2.2.2.2.2.2.2.2.2.1]
theorem block19 (t : Fin cfg0.N) : iblk m c 19 t = V m c main_v35 := by blk_ext! [iblk, (index_whole t).2.2.2.2.2.2.2.2.2.2.2.2.2.2.2.2.2.1]
theorem block20 (t : Fin cfg0.N) : iblk m c 20 t = V m c main_arg17 := by blk_ext! [iblk, (index_whole t).2.2.2.2.2.2.2.2.2.2.2.2.2.2.2.2.2.2.1]
theorem block21 (t : Fin cfg0.N) : iblk m c 21 t = V m c main_v36 := by blk_ext! [iblk, (index_whole t).2.2.2.2.2.2.2.2.2.2.2.2.2.2.2.2.2.2.2]

/-! ## The array -/

section

variable {xs : ℕ → ℕ → ℕ} {aw : ℕ → ℕ → ℝ} {ab : ℕ → ℝ} {P : ℕ → Params}
  {W : ℕ → ℕ → EReal} {b : ℕ → EReal} {fw : ℕ → ℕ → EReal} {fb : ℕ → EReal}

/-- What the argument arrays of device `c` hold. -/
abbrev ArgsAt (xs : ℕ → ℕ → ℕ) (aw : ℕ → ℕ → ℝ) (ab : ℕ → ℝ) (P : ℕ → Params)
    (W : ℕ → ℕ → EReal) (b : ℕ → EReal) (fw : ℕ → ℕ → EReal) (fb : ℕ → EReal) : Prop :=
  Args xs aw ab P W b fw fb (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))

set_option maxHeartbeats 2000000 in
/-- So the blocks of point `t` hold the arguments, the tokens being those from `128 t` on. -/
theorem reads (H : ArgsAt m c xs aw ab P W b fw fb) (t : Fin cfg0.N) :
    Body.Reads (envAt m c t) (fun n s => xs (128 * t.val + n) s) aw ab P W b fw fb := by
  have hx : At2 (V m c main_v0 : S8192x9.Idx → BitVec 32) fun n s => BitVec.ofNat 32 (xs n s) := by
    rw [Host.tokens]
    refine At2.congr (H.x.merge _ rfl) fun n s _ _ => ?_
    rw [Nat.div_add_mod]
  refine ⟨fun n s => H.lt _ _, ?_, ?_, ?_, ?_, ?_, ?_, ?_, ?_, ?_, ?_, ?_, ?_, ?_, ?_, ?_, ?_, ?_, ?_, ?_, ?_, ?_, ?_⟩
  · intro z r z'
    have hz : z = 0 := Subsingleton.elim _ _
    subst hz
    refine (block0 m c t r z').trans ?_
    have hg : At3 (V m c main_v3 : S64x1152x1.Idx → BitVec 32) fun t r _ => BitVec.ofNat 32 (xs (128 * t + tok 144 r) (pos r)) := by
      rw [Host.grouped, ← Host.tokens]; exact Host.regroup hx
    exact hg _ _ _
  · intro i j
    exact (block1 m c t i j).trans (hx _ _)
  · exact At2.of_eq (block2 m c t) (Host.isFlag1 m c)
  · exact At2.of_eq (block3 m c t) (Host.isFlag2 m c)
  · exact At2.of_eq ((block4 m c t).trans (V_main_arg3 m c)) (H.a3)
  · exact At2.of_eq ((block5 m c t).trans ((Host.rows m c).row26)) (H.a4.row _)
  · exact At2.of_eq ((block6 m c t).trans (V_main_arg1 m c)) (H.a1)
  · exact At2.of_eq ((block7 m c t).trans ((Host.rows m c).row27)) (H.a2.row _)
  · refine At3.of_eq ((block8 m c t).trans (Host.weights m c)) fun l k j => ?_
    exact (congrArg₂ (fun x y : EReal => x * y) (H.a5 l k j) (Host.qscale3 l k j)).trans (EReal.coe_mul _ _).symm
  · have hb : R2 (mulf (F := Ideal) (φ := .f32) _ _) _ := H.a6.mul Host.qscale2
    exact At3.of_eq ((block9 m c t).trans (Host.biases m c)) (hb.rows _)
  · exact At3.of_eq ((block10 m c t).trans (V_main_arg7 m c)) (H.a7)
  · exact At3.of_eq ((block11 m c t).trans ((Host.rows m c).row29)) (H.a8.rows _)
  · exact At3.of_eq ((block12 m c t).trans ((Host.rows m c).row30)) (H.a9.rows _)
  · exact At3.of_eq ((block13 m c t).trans ((Host.rows m c).row31)) (H.a10.rows _)
  · exact At3.of_eq ((block14 m c t).trans (V_main_arg11 m c)) (H.a11)
  · exact At3.of_eq ((block15 m c t).trans ((Host.rows m c).row32)) (H.a12.rows _)
  · exact At3.of_eq ((block16 m c t).trans (V_main_arg13 m c)) (H.a13)
  · exact At3.of_eq ((block17 m c t).trans ((Host.rows m c).row33)) (H.a14.rows _)
  · exact At3.of_eq ((block18 m c t).trans ((Host.rows m c).row34)) (H.a15.rows _)
  · exact At3.of_eq ((block19 m c t).trans ((Host.rows m c).row35)) (H.a16.rows _)
  · exact At2.of_eq ((block20 m c t).trans (V_main_arg17 m c)) (H.a17)
  · exact At2.of_eq ((block21 m c t).trans ((Host.rows m c).row36)) (H.a18.row _)

/-- The output array after the run. -/
theorem final (H : ArgsAt m c xs aw ab P W b fw fb) :
    (dats m 0 c).arrAt 22 cfg0.N = fun i : S8192x512.Idx => result xs aw ab P W b fw fb (i 0) (i 1) := by
  refine (dats m 0 c).arrAt_eq_of_covers 22 _ (by decide +kernel) fun t hf y => ?_
  blk_simp
  rw [after0_22, outs_eq]
  obtain ⟨i, j, rfl⟩ : ∃ (i : Fin 128) (j : Fin 512), y = ix2 i j := ⟨y 0, y 1, ValueIdx.eq_ix2 y⟩
  refine ((reads m c H t).out i j).trans ?_
  rw [(index_rows t).2.2]
  show result xs aw ab P W b fw fb (128 * t.val + i.val) j.val = result xs aw ab P W b fw fb (t.val * 128 + i.val) (0 * 512 + j.val)
  rw [Nat.mul_comm, Nat.zero_mul, Nat.zero_add]

end

end Cert.KernelIdeal.Array

end
-- ==== Proof.RefLayer.lean ====
/- One encoder layer of the reference, as a function of the array of all tokens and of the layer's parameters: the projections,
   the scores, the softmax, the context, the residuals and the two normalisations; each read, on real arrays, as the mathematics. -/
module

public import proofs.«01_k».proof.Proof.RealOps
public import proofs.«01_k».proof.Proof.Spec
public import proofs.«01_k».proof.Proof.Gen.ReferenceIdeal.Read
import Idealize.ShloMosaic.Lib.Pointwise

@[expose] public section

set_option maxRecDepth 16384

noncomputable section

namespace Cert.Reference

open Idealize.ShloMosaic Cert.ReferenceIdeal Cert.ReferenceIdeal.Gen Cert.Reading Cert.Spec
open scoped BigOperators

/-! ## The stages -/

/-- A vector in every row of every token. -/
abbrev bias (b : S512.Idx → EReal) : S8192x9x512.Idx → EReal :=
  broadcastInDim S8192x9x512 ![0, 1, 2] bcast_S1x1x512_S8192x9x512_0_1_2 (broadcastInDim S1x1x512 ![2] bcast_S512_S1x1x512_2 b)

/-- A linear map of every row, and its bias. -/
def linear (X : S8192x9x512.Idx → EReal) (W : S512x512.Idx → EReal) (b : S512.Idx → EReal) : S8192x9x512.Idx → EReal :=
  addf (F := Ideal) (φ := .f32)
    (Host.dotGeneral (F := Ideal) (φ₁ := .f32) (φ₂ := .f32) dot_S8192x9x512_S512x512_S8192x9x512_2_0_01_1_n_n none X W) (bias b)

/-- The three projections side by side. -/
def proj (X : S8192x9x512.Idx → EReal) (W : S512x1536.Idx → EReal) (b : S1536.Idx → EReal) : S8192x9x1536.Idx → EReal :=
  addf (F := Ideal) (φ := .f32)
    (Host.dotGeneral (F := Ideal) (φ₁ := .f32) (φ₂ := .f32) dot_S8192x9x512_S512x1536_S8192x9x1536_2_0_01_1_n_n none X W)
    (broadcastInDim S8192x9x1536 ![0, 1, 2] bcast_S1x1x1536_S8192x9x1536_0_1_2 (broadcastInDim S1x1x1536 ![2] bcast_S1536_S1x1x1536_2 b))

/-- The queries, the keys and the values, split into heads. -/
def queries (Z : S8192x9x1536.Idx → EReal) : S8192x9x8x64.Idx → EReal :=
  shapeCast _ (extractStridedSlice S8192x9x512 ![0, 0, 0] Z slices_S8192x9x1536_S8192x9x512_0_0_0) shapeCasts_S8192x9x512_S8192x9x8x64
def keys (Z : S8192x9x1536.Idx → EReal) : S8192x9x8x64.Idx → EReal :=
  shapeCast _ (extractStridedSlice S8192x9x512 ![0, 0, 512] Z slices_S8192x9x1536_S8192x9x512_0_0_512) shapeCasts_S8192x9x512_S8192x9x8x64
def values (Z : S8192x9x1536.Idx → EReal) : S8192x9x8x64.Idx → EReal :=
  shapeCast _ (extractStridedSlice S8192x9x512 ![0, 0, 1024] Z slices_S8192x9x1536_S8192x9x512_0_0_1024) shapeCasts_S8192x9x512_S8192x9x8x64

/-- The scores over the square root of 64. -/
def scores (Q K : S8192x9x8x64.Idx → EReal) : S8192x8x9x9.Idx → EReal :=
  Host.divf (F := Ideal) (φ := .f32)
    (Host.dotGeneral (F := Ideal) (φ₁ := .f32) (φ₂ := .f32) dot_S8192x9x8x64_S8192x9x8x64_S8192x8x9x9_3_3_1_1_02_02 none Q K)
    (broadcastInDim S8192x8x9x9 ![] bcast_S_S8192x8x9x9 (Host.sqrt (F := Ideal) (φ := .f32) (constant (F := Ideal) S_ .f32 0x42800000#32)))

/-- A number for each query, repeated over the keys. -/
abbrev perQuery (m : S8192x8x9.Idx → EReal) : S8192x8x9x9.Idx → EReal :=
  broadcastInDim S8192x8x9x9 ![0, 1, 2, 3] bcast_S8192x8x9x1_S8192x8x9x9_0_1_2_3
    (broadcastInDim S8192x8x9x1 ![0, 1, 2] bcast_S8192x8x9_S8192x8x9x1_0_1_2 m)

/-- The maximum of every row of scores. -/
def rowMax (S : S8192x8x9x9.Idx → EReal) : S8192x8x9.Idx → EReal :=
  Host.reduce (FloatOps.maximumf (F := Ideal) (φ := .f32)) S (constant (F := Ideal) S_ .f32 0xFF800000#32)
    reducesTo_S8192x8x9x9_S8192x8x9_d3 h_S_

/-- The exponentials of the scores less a number of their row, at least minus infinity. -/
def expLess (S : S8192x8x9x9.Idx → EReal) (M : S8192x8x9.Idx → EReal) : S8192x8x9x9.Idx → EReal :=
  Host.exp (F := Ideal) (φ := .f32) (subf (F := Ideal) (φ := .f32) S (perQuery (maximumf (F := Ideal) (φ := .f32)
    (broadcastInDim S8192x8x9 ![] bcast_S_S8192x8x9 (constant (F := Ideal) S_ .f32 0xFF800000#32)) M)))

/-- The exponentials of the scores less their row's maximum. -/
abbrev exps (S : S8192x8x9x9.Idx → EReal) : S8192x8x9x9.Idx → EReal := expLess S (rowMax S)

/-- The softmax. -/
def probs (S : S8192x8x9x9.Idx → EReal) : S8192x8x9x9.Idx → EReal :=
  Host.divf (F := Ideal) (φ := .f32) (exps S) (perQuery (Host.reduceAdd (F := Ideal) (φ := .f32) (exps S)
    (constant (F := Ideal) S_ .f32 0x00000000#32) reducesTo_S8192x8x9x9_S8192x8x9_d3 h_S_))

/-- The values averaged under the softmax, the heads side by side. -/
def context (V : S8192x9x8x64.Idx → EReal) (S : S8192x8x9x9.Idx → EReal) : S8192x9x512.Idx → EReal :=
  shapeCast _ (transpose S8192x9x8x64 [0, 3, 1, 2]
    (Host.dotGeneral (F := Ideal) (φ₁ := .f32) (φ₂ := .f32) dot_S8192x9x8x64_S8192x8x9x9_S8192x8x64x9_1_3_3_2_02_01 none V (probs S))
    transposes_S8192x8x64x9_S8192x9x8x64_0_3_1_2) shapeCasts_S8192x9x8x64_S8192x9x512

/-- The attention with its residual. -/
def attend (X : S8192x9x512.Idx → EReal) (Wqkv : S512x1536.Idx → EReal) (bqkv : S1536.Idx → EReal) (Wo : S512x512.Idx → EReal)
    (bo : S512.Idx → EReal) : S8192x9x512.Idx → EReal :=
  addf (F := Ideal) (φ := .f32) X
    (linear (context (values (proj X Wqkv bqkv)) (scores (queries (proj X Wqkv bqkv)) (keys (proj X Wqkv bqkv)))) Wo bo)

/-- The mean of every row. -/
def means (X : S8192x9x512.Idx → EReal) : S8192x9x1.Idx → EReal :=
  Host.divf (F := Ideal) (φ := .f32)
    (broadcastInDim S8192x9x1 ![0, 1] bcast_S8192x9_S8192x9x1_0_1 (Host.reduceAdd (F := Ideal) (φ := .f32) X
      (constant (F := Ideal) S_ .f32 0x00000000#32) reducesTo_S8192x9x512_S8192x9_d2 h_S_))
    (broadcastInDim S8192x9x1 ![] bcast_S_S8192x9x1 (constant (F := Ideal) S_ .f32 0x44000000#32))

/-- Every row less its mean. -/
def centred (X : S8192x9x512.Idx → EReal) : S8192x9x512.Idx → EReal :=
  subf (F := Ideal) (φ := .f32) X (broadcastInDim S8192x9x512 ![0, 1, 2] bcast_S8192x9x1_S8192x9x512_0_1_2 (means X))

/-- The layer normalisation of every row. -/
def norm (X : S8192x9x512.Idx → EReal) (g b : S512.Idx → EReal) : S8192x9x512.Idx → EReal :=
  addf (F := Ideal) (φ := .f32) (mulf (F := Ideal) (φ := .f32) (mulf (F := Ideal) (φ := .f32) (centred X)
    (broadcastInDim S8192x9x512 ![0, 1, 2] bcast_S8192x9x1_S8192x9x512_0_1_2 (Host.rsqrt (F := Ideal) (φ := .f32)
      (addf (F := Ideal) (φ := .f32) (means (mulf (F := Ideal) (φ := .f32) (centred X) (centred X)))
        (broadcastInDim S8192x9x1 ![] bcast_S_S8192x9x1 (constant (F := Ideal) S_ .f32 0x3727C5AC#32)))))) (bias g)) (bias b)

/-- The feed-forward map with its residual. -/
def feed (X : S8192x9x512.Idx → EReal) (W1 : S512x512.Idx → EReal) (c1 : S512.Idx → EReal) (W2 : S512x512.Idx → EReal)
    (c2 : S512.Idx → EReal) : S8192x9x512.Idx → EReal :=
  addf (F := Ideal) (φ := .f32) X (linear (maximumf (F := Ideal) (φ := .f32) (linear X W1 c1)
    (broadcastInDim S8192x9x512 ![] bcast_S_S8192x9x512 (constant (F := Ideal) S_ .f32 0x00000000#32))) W2 c2)

/-! ## The stages read on real arrays -/

section Read

variable {X : S8192x9x512.Idx → EReal} {x : ℕ → ℕ → ℕ → ℝ}

theorem linear_at (hX : R3 X x) {W : S512x512.Idx → EReal} {w : ℕ → ℕ → ℝ} (hW : R2 W w) {b : S512.Idx → EReal} {β : ℕ → ℝ}
    (hb : At1 b fun j => ((β j : ℝ) : EReal)) : R3 (linear X W b) fun n s => lin w β (x n s) := by
  intro n s j
  have e : linear X W b (ix3 n s j) = (0 + ∑ k : Fin 512, X (ix3 n s k) * W (ix2 k j)) + b (ix1 j) := by
    unfold linear bias; pointwise
  rw [e, hb j, Finset.sum_congr rfl fun k _ => congrArg₂ (· * ·) (hX n s k) (hW k j), dot_real (fun k => x n s k) fun k => w k j]
  exact (EReal.coe_add _ _).symm

theorem proj_at (hX : R3 X x) {W : S512x1536.Idx → EReal} {w : ℕ → ℕ → ℝ} (hW : R2 W w) {b : S1536.Idx → EReal} {β : ℕ → ℝ}
    (hb : At1 b fun j => ((β j : ℝ) : EReal)) : R3 (proj X W b) fun n s => lin w β (x n s) := by
  intro n s j
  have e : proj X W b (ix3 n s j) = (0 + ∑ k : Fin 512, X (ix3 n s k) * W (ix2 k j)) + b (ix1 j) := by
    unfold proj; pointwise
  rw [e, hb j, Finset.sum_congr rfl fun k _ => congrArg₂ (· * ·) (hX n s k) (hW k j), dot_real (fun k => x n s k) fun k => w k j]
  exact (EReal.coe_add _ _).symm

/-- Real-valued rank-4 arrays. -/
abbrev R4 {a b c d : ℕ} (v : (⟨4, ![a, b, c, d]⟩ : Shape).Idx → EReal) (f : ℕ → ℕ → ℕ → ℕ → ℝ) : Prop :=
  At4 v fun i j k l => ((f i j k l : ℝ) : EReal)

section Heads

variable {Z : S8192x9x1536.Idx → EReal} {z : ℕ → ℕ → ℕ → ℝ}

theorem queries_at (hZ : R3 Z z) : R4 (queries Z) fun n s h e => z n s (64 * h + e) := by
  intro n s h e
  have h1 := h.isLt
  have h2 := e.isLt
  have q : queries Z (ix4 n s h e) = Z (ix3 n s ⟨h.val * 64 + e.val, by omega⟩) := by unfold queries; pointwise
  refine (q.trans (hZ _ _ _)).trans (congrArg (fun a => ((z n s (a + e) : ℝ) : EReal)) (Nat.mul_comm _ _))

theorem keys_at (hZ : R3 Z z) : R4 (keys Z) fun n s h e => z n s (512 + (64 * h + e)) := by
  intro n s h e
  have h1 := h.isLt
  have h2 := e.isLt
  have q : keys Z (ix4 n s h e) = Z (ix3 n s ⟨512 + (h.val * 64 + e.val), by omega⟩) := by unfold keys; pointwise
  refine (q.trans (hZ _ _ _)).trans (congrArg (fun a => ((z n s (512 + (a + e)) : ℝ) : EReal)) (Nat.mul_comm _ _))

theorem values_at (hZ : R3 Z z) : R4 (values Z) fun n s h e => z n s (1024 + (64 * h + e)) := by
  intro n s h e
  have h1 := h.isLt
  have h2 := e.isLt
  have q : values Z (ix4 n s h e) = Z (ix3 n s ⟨1024 + (h.val * 64 + e.val), by omega⟩) := by unfold values; pointwise
  refine (q.trans (hZ _ _ _)).trans (congrArg (fun a => ((z n s (1024 + (a + e)) : ℝ) : EReal)) (Nat.mul_comm _ _))

end Heads

theorem word64 : Ideal.ofBits .f32 0x42800000#32 = ((64 : ℝ) : EReal) := by
  simp [Ideal.ofBits, Ideal.ieee, -EReal.coe_mul]; norm_num

theorem word512 : Ideal.ofBits .f32 0x44000000#32 = ((512 : ℝ) : EReal) := by
  simp [Ideal.ofBits, Ideal.ieee, -EReal.coe_mul]; norm_num

theorem wordEps : Ideal.ofBits .f32 0x3727C5AC#32 = ((eps : ℝ) : EReal) := by
  simp [Ideal.ofBits, Ideal.ieee, -EReal.coe_mul, eps]; norm_num

theorem wordBot : Ideal.ofBits .f32 0xFF800000#32 = ⊥ := by
  simp [Ideal.ofBits, Ideal.ieee]

theorem sqrt64 : Ideal.sqrt ((64 : ℝ) : EReal) = ((8 : ℝ) : EReal) := by
  rw [sqrt_coe (by norm_num)]
  rw [show (64 : ℝ) = 8 ^ 2 by norm_num, Real.sqrt_sq (by norm_num)]

theorem scores_at {Q K : S8192x9x8x64.Idx → EReal} {q k : ℕ → ℕ → ℕ → ℝ} (hQ : R4 Q fun n s h e => q n s (64 * h + e))
    (hK : R4 K fun n s h e => k n s (64 * h + e)) : R4 (scores Q K) fun n h s t => score (fun s j => q n s j / 8) (k n) h s t := by
  intro n h s t
  have e : scores Q K (ix4 n h s t)
      = Ideal.div (0 + ∑ e : Fin 64, Q (ix4 n s h e) * K (ix4 n t h e)) (Ideal.sqrt (Ideal.ofBits .f32 0x42800000#32)) := by
    unfold scores; pointwise
  rw [e, word64, sqrt64, Finset.sum_congr rfl fun e _ => congrArg₂ (· * ·) (hQ n s h e) (hK n t h e),
    dot_real (fun e => q n s (64 * h + e)) fun e => k n t (64 * h + e), div_coe_coe _ (by norm_num), Finset.sum_div]
  exact congrArg _ (Finset.sum_congr rfl fun e _ => by ring)

theorem rowMax_apply (S : S8192x8x9x9.Idx → EReal) (n : Fin 8192) (h : Fin 8) (s : Fin 9) :
    rowMax S (ix3 n h s) = Finset.univ.fold max (Ideal.ofBits .f32 0xFF800000#32) fun u : Fin 9 => S (ix4 n h s u) := by
  unfold rowMax; pointwise

theorem expLess_apply (S : S8192x8x9x9.Idx → EReal) (M : S8192x8x9.Idx → EReal) (n : Fin 8192) (h : Fin 8) (s u : Fin 9) :
    expLess S M (ix4 n h s u) = Ideal.exp (S (ix4 n h s u) - max (Ideal.ofBits .f32 0xFF800000#32) (M (ix3 n h s))) := by
  unfold expLess perQuery; pointwise

/-- The exponential at an index: the maximum is the fold over the row, from minus infinity. -/
theorem exps_apply (S : S8192x8x9x9.Idx → EReal) (n : Fin 8192) (h : Fin 8) (s u : Fin 9) :
    exps S (ix4 n h s u) = Ideal.exp (S (ix4 n h s u) - Finset.univ.fold max ⊥ fun u : Fin 9 => S (ix4 n h s u)) := by
  have hm : ∀ y : EReal, max ⊥ y = y := fun y => max_eq_right bot_le
  rw [exps, expLess_apply, rowMax_apply, wordBot, hm]

theorem probs_apply (S : S8192x8x9x9.Idx → EReal) (n : Fin 8192) (h : Fin 8) (s t : Fin 9) :
    probs S (ix4 n h s t) = Ideal.div (exps S (ix4 n h s t)) (∑ u : Fin 9, exps S (ix4 n h s u)) := by
  unfold probs perQuery
  generalize exps S = E
  pointwise

theorem probs_at {S : S8192x8x9x9.Idx → EReal} {a : ℕ → ℕ → ℕ → ℕ → ℝ} (hS : R4 S a) :
    R4 (probs S) fun n h s t => Real.exp (a n h s t) / sumTo 9 fun u => Real.exp (a n h s u) := by
  intro n h s t
  have := softmax_masked (fun u : Fin 9 => S (ix4 n h s u)) (fun _ => True) (fun u => a n h s u)
    (fun u => (hS n h s u).trans (if_pos trivial).symm) 0 trivial t
  simp only [if_true] at this
  rw [probs_apply, exps_apply, Finset.sum_congr rfl fun u _ => exps_apply S n h s u]
  exact this

theorem context_at {V : S8192x9x8x64.Idx → EReal} {S : S8192x8x9x9.Idx → EReal} {v : ℕ → ℕ → ℕ → ℝ} {q k : ℕ → ℕ → ℕ → ℝ}
    (hV : R4 V fun n s h e => v n s (64 * h + e)) (hS : R4 S fun n h s t => score (q n) (k n) h s t) :
    R3 (context V S) fun n s => ctx (q n) (k n) (v n) s := by
  intro n s d
  have hd := d.isLt
  have e : context V S (ix3 n s d) = 0 + ∑ t : Fin 9, V (ix4 n t ⟨d.val / 64, by omega⟩ ⟨d.val % 64, by omega⟩)
      * probs S (ix4 n ⟨d.val / 64, by omega⟩ s t) := by
    unfold context; pointwise
  rw [e, Finset.sum_congr rfl fun t _ => congrArg₂ (· * ·) (hV n t _ _) (probs_at hS n _ s t)]
  refine (dot_real (fun t => v n t (64 * (d / 64) + d % 64)) fun t => prob (q n) (k n) (d / 64) s t).trans ?_
  rw [Nat.div_add_mod]
  exact congrArg _ (Finset.sum_congr rfl fun t _ => mul_comm _ _)

theorem means_at (hX : R3 X x) : R3 (means X) fun n s _ => mean (x n s) := by
  intro n s j
  have e : means X (ix3 n s j) = Ideal.div (∑ k : Fin 512, X (ix3 n s k)) (Ideal.ofBits .f32 0x44000000#32) := by
    unfold means; pointwise
  rw [e, word512, Finset.sum_congr rfl fun k _ => hX n s k, coe_sum (fun k => x n s k), div_coe_coe _ (by norm_num)]
  rfl

theorem centred_at (hX : R3 X x) : R3 (centred X) fun n s j => x n s j - mean (x n s) := by
  intro n s j
  have e : centred X (ix3 n s j) = X (ix3 n s j) - means X (ix3 n s 0) := by unfold centred; pointwise
  rw [e, hX n s j, means_at hX n s 0]
  exact (EReal.coe_sub _ _).symm

theorem norm_at (hX : R3 X x) {g b : S512.Idx → EReal} {γ β : ℕ → ℝ} (hg : At1 g fun j => ((γ j : ℝ) : EReal))
    (hb : At1 b fun j => ((β j : ℝ) : EReal)) : R3 (norm X g b) fun n s => ln γ β (x n s) := by
  intro n s j
  have hc := centred_at hX
  have hsq : R3 (mulf (F := Ideal) (φ := .f32) (centred X) (centred X))
      fun n s j => (x n s j - mean (x n s)) * (x n s j - mean (x n s)) := fun n s j =>
    (congrArg₂ (fun a b : EReal => a * b) (hc n s j) (hc n s j)).trans (EReal.coe_mul _ _).symm
  have e : norm X g b (ix3 n s j) = centred X (ix3 n s j)
      * Ideal.rsqrt (means (mulf (F := Ideal) (φ := .f32) (centred X) (centred X)) (ix3 n s 0) + Ideal.ofBits .f32 0x3727C5AC#32)
      * g (ix1 j) + b (ix1 j) := by
    unfold norm bias
    generalize means (mulf (F := Ideal) (φ := .f32) (centred X) (centred X)) = M
    generalize centred X = C
    pointwise
  rw [e, wordEps, hc n s j, means_at hsq n s 0, hg j, hb j, ← EReal.coe_add]
  show _ * Ideal.rsqrt ((var (x n s) + eps : ℝ) : EReal) * _ + _ = _
  rw [rsqrt_coe (add_pos_of_nonneg_of_pos (var_nonneg _) eps_pos), ← EReal.coe_mul, ← EReal.coe_mul, ← EReal.coe_add]
  unfold ln
  beta_reduce
  rw [div_eq_mul_inv]

theorem feed_at (hX : R3 X x) {W1 W2 : S512x512.Idx → EReal} {w1 w2 : ℕ → ℕ → ℝ} (h1 : R2 W1 w1) (h2 : R2 W2 w2)
    {c1 c2 : S512.Idx → EReal} {d1 d2 : ℕ → ℝ} (hc1 : At1 c1 fun j => ((d1 j : ℝ) : EReal))
    (hc2 : At1 c2 fun j => ((d2 j : ℝ) : EReal)) :
    R3 (feed X W1 c1 W2 c2) fun n s j => x n s j + lin w2 d2 (fun k => max (lin w1 d1 (x n s) k) 0) j := by
  have hm : R3 (maximumf (F := Ideal) (φ := .f32) (linear X W1 c1)
      (broadcastInDim S8192x9x512 ![] bcast_S_S8192x9x512 (constant (F := Ideal) S_ .f32 0x00000000#32)))
      fun n s k => max (lin w1 d1 (x n s) k) 0 := by
    intro n s k
    refine (congrArg₂ (fun a b : EReal => max a b) (linear_at hX h1 hc1 n s k) (?_ : _ = ((0 : ℝ) : EReal))).trans (coe_max' _ _)
    exact Ideal.ofBits_zero_f32
  intro n s j
  exact (congrArg₂ (fun a b : EReal => a + b) (hX n s j) (linear_at hm h2 hc2 n s j)).trans (EReal.coe_add _ _).symm

end Read

end Cert.Reference

end
-- ==== Proof.RefEncoder.lean ====
/- The reference's two layers as one function applied twice, and its reading on real arrays. -/
module

public import proofs.«01_k».proof.Proof.RefLayer

@[expose] public section

set_option maxRecDepth 16384

noncomputable section

namespace Cert.Reading

open Idealize.ShloMosaic

variable {α : Type}

/-- Plane `p` of a rank-3 array. -/
theorem At3.plane {a b c p : ℕ} {v : (⟨3, ![a, b, c]⟩ : Shape).Idx → α} {f : ℕ → ℕ → ℕ → α} (h : At3 v f)
    (hs : (⟨3, ![a, b, c]⟩ : Shape).Slices ![p, 0, 0] ⟨3, ![1, b, c]⟩) (hc : (⟨3, ![1, b, c]⟩ : Shape).ShapeCasts ⟨2, ![b, c]⟩) :
    At2 (shapeCast ⟨2, ![b, c]⟩ (extractStridedSlice ⟨3, ![1, b, c]⟩ ![p, 0, 0] v hs) hc) (f p) := by
  have hp : p + 1 ≤ a := hs.2 0
  have h3 : At3 (extractStridedSlice ⟨3, ![1, b, c]⟩ ![p, 0, 0] v hs) fun i j k => f (p + i) j k := by
    intro i j k
    have hi := i.isLt
    rw [extractStridedSlice_apply _ v hs (ix3 i j k) (ix3 ⟨p + i, by omega⟩ j k)
      (fun x => match x with | ⟨0, _⟩ => rfl | ⟨1, _⟩ => (Nat.zero_add _).symm | ⟨2, _⟩ => (Nat.zero_add _).symm)]
    exact h _ _ _
  exact h3.drop hc

/-- Row `p` of a rank-2 array. -/
theorem At2.line {a b p : ℕ} {v : (⟨2, ![a, b]⟩ : Shape).Idx → α} {f : ℕ → ℕ → α} (h : At2 v f)
    (hs : (⟨2, ![a, b]⟩ : Shape).Slices ![p, 0] ⟨2, ![1, b]⟩) (hc : (⟨2, ![1, b]⟩ : Shape).ShapeCasts ⟨1, ![b]⟩) :
    At1 (shapeCast ⟨1, ![b]⟩ (extractStridedSlice ⟨2, ![1, b]⟩ ![p, 0] v hs) hc) (f p) := by
  intro j
  rw [shapeCast_apply _ hc (ix1 j) (ix2 0 j) (by
    rw [Shape.rowMajor_val_one, Shape.rowMajor_val_two]
    show 0 * b + j.val = j.val
    rw [Nat.zero_mul, Nat.zero_add])]
  refine (h.slice hs 0 j).trans ?_
  show f (p + 0) (0 + j) = f p j
  rw [Nat.add_zero, Nat.zero_add]

end Cert.Reading

namespace Cert.Reference

open Idealize.ShloMosaic Cert.ReferenceIdeal Cert.ReferenceIdeal.Gen Cert.ReferenceIdeal.Read Cert.Reading Cert.Spec

/-- One layer. -/
def layerOf (X : S8192x9x512.Idx → EReal) (Wqkv : S512x1536.Idx → EReal) (bqkv : S1536.Idx → EReal) (Wo : S512x512.Idx → EReal)
    (bo g1 b1 : S512.Idx → EReal) (W1 : S512x512.Idx → EReal) (c1 : S512.Idx → EReal) (W2 : S512x512.Idx → EReal)
    (c2 g2 b2 : S512.Idx → EReal) : S8192x9x512.Idx → EReal :=
  norm (feed (norm (attend X Wqkv bqkv Wo bo) g1 b1) W1 c1 W2 c2) g2 b2

/-- What the parameters of one layer hold. -/
structure Holds (P : Params) (Wqkv : S512x1536.Idx → EReal) (bqkv : S1536.Idx → EReal) (Wo : S512x512.Idx → EReal)
    (bo g1 b1 : S512.Idx → EReal) (W1 : S512x512.Idx → EReal) (c1 : S512.Idx → EReal) (W2 : S512x512.Idx → EReal)
    (c2 g2 b2 : S512.Idx → EReal) : Prop where
  wqkv : R2 Wqkv P.Wqkv
  bqkv : At1 bqkv fun j => ((P.bqkv j : ℝ) : EReal)
  wo : R2 Wo P.Wo
  bo : At1 bo fun j => ((P.bo j : ℝ) : EReal)
  g1 : At1 g1 fun j => ((P.g1 j : ℝ) : EReal)
  b1 : At1 b1 fun j => ((P.b1 j : ℝ) : EReal)
  w1 : R2 W1 P.W1
  c1 : At1 c1 fun j => ((P.c1 j : ℝ) : EReal)
  w2 : R2 W2 P.W2
  c2 : At1 c2 fun j => ((P.c2 j : ℝ) : EReal)
  g2 : At1 g2 fun j => ((P.g2 j : ℝ) : EReal)
  b2 : At1 b2 fun j => ((P.b2 j : ℝ) : EReal)

section

variable {X : S8192x9x512.Idx → EReal} {x : ℕ → ℕ → ℕ → ℝ} {P : Params} {Wqkv : S512x1536.Idx → EReal} {bqkv : S1536.Idx → EReal}
  {Wo W1 W2 : S512x512.Idx → EReal} {bo g1 b1 c1 c2 g2 b2 : S512.Idx → EReal}

theorem attend_at (hX : R3 X x) (h : Holds P Wqkv bqkv Wo bo g1 b1 W1 c1 W2 c2 g2 b2) :
    R3 (attend X Wqkv bqkv Wo bo) fun n => attn P (x n) := by
  have hZ := proj_at hX h.wqkv h.bqkv
  have hS := scores_at (q := fun n s j => lin P.Wqkv P.bqkv (x n s) j) (k := fun n s j => lin P.Wqkv P.bqkv (x n s) (512 + j))
    (queries_at hZ) (keys_at hZ)
  have hC := context_at (v := fun n s j => lin P.Wqkv P.bqkv (x n s) (1024 + j))
    (q := fun n s j => lin P.Wqkv P.bqkv (x n s) j / 8) (k := fun n s j => lin P.Wqkv P.bqkv (x n s) (512 + j)) (values_at hZ) hS
  have hL := linear_at hC h.wo h.bo
  intro n s d
  exact (congrArg₂ (fun a b : EReal => a + b) (hX n s d) (hL n s d)).trans (EReal.coe_add _ _).symm

theorem layerOf_at (hX : R3 X x) (h : Holds P Wqkv bqkv Wo bo g1 b1 W1 c1 W2 c2 g2 b2) :
    R3 (layerOf X Wqkv bqkv Wo bo g1 b1 W1 c1 W2 c2 g2 b2) fun n => layer P (x n) :=
  norm_at (feed_at (norm_at (attend_at hX h) h.g1 h.b1) h.w1 h.w2 h.c1 h.c2) h.g2 h.b2

end

section

variable (x0 : S32x256x9.Idx → BitVec 32) (x3 : S631x512.Idx → EReal) (x4 : S512.Idx → EReal) (x5 : S2x512x1536.Idx → EReal)
  (x6 : S2x1536.Idx → EReal) (x7 : S2x512x512.Idx → EReal) (x8 x9 x10 : S2x512.Idx → EReal) (x11 : S2x512x512.Idx → EReal)
  (x12 : S2x512.Idx → EReal) (x13 : S2x512x512.Idx → EReal) (x14 x15 x16 : S2x512.Idx → EReal)

/-- The first layer. -/
theorem first_eq : val_main_v147 (F := Ideal) x0 x3 x4 x5 x6 x7 x8 x9 x10 x11 x12 x13 x14 x15 x16
    = layerOf (val_main_v32 (F := Ideal) x0 x3 x4) (val_main_v34 (F := Ideal) x5) (val_main_v36 (F := Ideal) x6)
      (val_main_v38 (F := Ideal) x7) (val_main_v40 (F := Ideal) x8) (val_main_v42 (F := Ideal) x9) (val_main_v44 (F := Ideal) x10)
      (val_main_v46 (F := Ideal) x11) (val_main_v48 (F := Ideal) x12) (val_main_v50 (F := Ideal) x13) (val_main_v52 (F := Ideal) x14)
      (val_main_v54 (F := Ideal) x15) (val_main_v56 (F := Ideal) x16) := rfl

/-- The second layer, on what the first leaves. -/
theorem second_eq : val_main_v262 (F := Ideal) x0 x3 x4 x5 x6 x7 x8 x9 x10 x11 x12 x13 x14 x15 x16
    = layerOf (val_main_v147 (F := Ideal) x0 x3 x4 x5 x6 x7 x8 x9 x10 x11 x12 x13 x14 x15 x16) (val_main_v149 (F := Ideal) x5)
      (val_main_v151 (F := Ideal) x6) (val_main_v153 (F := Ideal) x7) (val_main_v155 (F := Ideal) x8) (val_main_v157 (F := Ideal) x9)
      (val_main_v159 (F := Ideal) x10) (val_main_v161 (F := Ideal) x11) (val_main_v163 (F := Ideal) x12) (val_main_v165 (F := Ideal) x13)
      (val_main_v167 (F := Ideal) x14) (val_main_v169 (F := Ideal) x15) (val_main_v171 (F := Ideal) x16) := rfl

end

end Cert.Reference

end
-- ==== Proof.RefTables.lean ====
/- The reference's two table reads: the embedding rows picked by the indices, and the nine rows of the large table, one per position. -/
module

public import proofs.«01_k».proof.Proof.RefEncoder
public import proofs.«01_k».proof.Proof.Args
import Idealize.ShloMosaic.Lib.Pointwise
import Idealize.ShloMosaic.Lib.Routing.OpsPair

@[expose] public section

set_option maxRecDepth 16384

noncomputable section

namespace Cert.Reference

open Idealize.ShloMosaic Cert.ReferenceIdeal Cert.ReferenceIdeal.Gen Cert.ReferenceIdeal.Read Cert.Reading Cert.Spec
open scoped BigOperators

/-- A small natural as a word, read signed and clamped below a bound it does not reach. -/
theorem clamp_word {n m : ℕ} (h : n ≤ m) (hm : m < 2 ^ 31) : min (BitVec.ofNat 32 n).toInt.toNat m = n := by
  have e : (BitVec.ofNat 32 n).toInt = (n : ℤ) := by
    rw [BitVec.toInt_eq_toNat_of_lt (by rw [BitVec.toNat_ofNat, Nat.mod_eq_of_lt (by omega)]; omega), BitVec.toNat_ofNat,
      Nat.mod_eq_of_lt (by omega)]
  rw [e, Int.toNat_natCast]
  omega

/-- The wrap of a negative index leaves a small natural alone. -/
theorem wrap_word {n : ℕ} (hn : n < 2 ^ 31) (a : BitVec 32) :
    Scalar.select (IntOp.cmpi .slt (BitVec.ofNat 32 n) 0#32) a (BitVec.ofNat 32 n) = BitVec.ofNat 32 n :=
  Routing.wrap_of_lt _ _ (by rw [BitVec.toNat_ofNat, Nat.mod_eq_of_lt (by omega)]; exact hn)

/-- The embedding table read at an index in range. -/
theorem gather_rows (x : S631x512.Idx → EReal) (y : S32x256x9x1.Idx → BitVec 32) (i : Fin 32) (t : Fin 256) (s : Fin 9) (j : Fin 512)
    {n : ℕ} (hn : n < 631) (hy : y (ix4 i t s 0) = BitVec.ofNat 32 n) :
    Host.gather gather_S631x512_S32x256x9x1_S32x256x9x512_3_0_n_n_0_3_1512 x y (ix4 i t s j) = x (ix2 ⟨n, hn⟩ j) := by
  unfold Host.gather
  refine congrArg x (funext fun a => Fin.ext ?_)
  match a with
  | ⟨0, _⟩ =>
    have e : gather_S631x512_S32x256x9x1_S32x256x9x512_3_0_n_n_0_3_1512.siIdx (ix4 i t s j) ⟨0, by decide⟩ = ix4 i t s 0 := by
      funext b; match b with | ⟨0, _⟩ => rfl | ⟨1, _⟩ => rfl | ⟨2, _⟩ => rfl | ⟨3, _⟩ => rfl
    show min (y (gather_S631x512_S32x256x9x1_S32x256x9x512_3_0_n_n_0_3_1512.siIdx (ix4 i t s j) ⟨0, by decide⟩)).toInt.toNat 630 + 0 + 0 = n
    rw [e, hy, clamp_word (by omega) (by norm_num), Nat.add_zero]
  | ⟨1, _⟩ =>
    show 0 + 0 + j.val = j.val
    omega

/-- The large table read at a position and an index in range. -/
theorem gather_pairs (x : S9x631x512.Idx → EReal) (y : S32x256x9x2.Idx → BitVec 32) (i : Fin 32) (t : Fin 256) (s : Fin 9) (j : Fin 512)
    {p n : ℕ} (hp : p < 9) (hn : n < 631) (h0 : y (ix4 i t s 0) = BitVec.ofNat 32 p) (h1 : y (ix4 i t s 1) = BitVec.ofNat 32 n) :
    Host.gather gather_S9x631x512_S32x256x9x2_S32x256x9x512_3_01_n_n_01_3_11512 x y (ix4 i t s j) = x (ix3 ⟨p, hp⟩ ⟨n, hn⟩ j) := by
  unfold Host.gather
  refine congrArg x (funext fun a => Fin.ext ?_)
  match a with
  | ⟨0, _⟩ =>
    have e : gather_S9x631x512_S32x256x9x2_S32x256x9x512_3_01_n_n_01_3_11512.siIdx (ix4 i t s j) ⟨0, by decide⟩ = ix4 i t s 0 := by
      funext b; match b with | ⟨0, _⟩ => rfl | ⟨1, _⟩ => rfl | ⟨2, _⟩ => rfl | ⟨3, _⟩ => rfl
    show min (y (gather_S9x631x512_S32x256x9x2_S32x256x9x512_3_01_n_n_01_3_11512.siIdx (ix4 i t s j) ⟨0, by decide⟩)).toInt.toNat 8 + 0 + 0 = p
    rw [e, h0, clamp_word (by omega) (by norm_num), Nat.add_zero]
  | ⟨1, _⟩ =>
    have e : gather_S9x631x512_S32x256x9x2_S32x256x9x512_3_01_n_n_01_3_11512.siIdx (ix4 i t s j) ⟨1, by decide⟩ = ix4 i t s 1 := by
      funext b; match b with | ⟨0, _⟩ => rfl | ⟨1, _⟩ => rfl | ⟨2, _⟩ => rfl | ⟨3, _⟩ => rfl
    show min (y (gather_S9x631x512_S32x256x9x2_S32x256x9x512_3_01_n_n_01_3_11512.siIdx (ix4 i t s j) ⟨1, by decide⟩)).toInt.toNat 630 + 0 + 0 = n
    rw [e, h1, clamp_word (by omega) (by norm_num), Nat.add_zero]
  | ⟨2, _⟩ =>
    show 0 + 0 + j.val = j.val
    omega

section

variable {xs : ℕ → ℕ → ℕ} {x0 : S32x256x9.Idx → BitVec 32} (hlt : ∀ n s, xs n s < 631)
  (hx : At3 x0 fun i t s => BitVec.ofNat 32 (xs (256 * i + t) s))

include hlt hx

/-- The wrapped indices are the indices. -/
theorem index_at (i : Fin 32) (t : Fin 256) (s : Fin 9) :
    val_main_v4 (F := Ideal) x0 (ix3 i t s) = BitVec.ofNat 32 (xs (256 * i + t) s) := by
  have h := hlt (256 * i + t) s
  have e : val_main_v4 (F := Ideal) x0 (ix3 i t s)
      = Scalar.select (IntOp.cmpi .slt (x0 (ix3 i t s)) 0#32) (val_main_v3 (F := Ideal) x0 (ix3 i t s)) (x0 (ix3 i t s)) := by
    rw [val_main_v4_apply, val_main_v1_apply, val_main_v0_apply, val_main_c_apply]
  rw [e, hx i t s]
  exact wrap_word (by omega) _

/-- The embedding, token by token. -/
theorem emb_at {x3 : S631x512.Idx → EReal} {x4 : S512.Idx → EReal} {aw : ℕ → ℕ → ℝ} {ab : ℕ → ℝ} (h3 : R2 x3 aw)
    (h4 : At1 x4 fun j => ((ab j : ℝ) : EReal)) : R3 (val_main_v32 (F := Ideal) x0 x3 x4) fun n => emb xs aw ab n := by
  intro n s j
  have hn : n.val < 8192 := n.isLt
  have hd : 256 * (n.val / 256) + n.val % 256 = n.val := Nat.div_add_mod _ _
  have e : val_main_v32 (F := Ideal) x0 x3 x4 (ix3 n s j)
      = val_main_v6 (F := Ideal) x0 x3 (ix4 ⟨n.val / 256, by omega⟩ ⟨n.val % 256, by omega⟩ s j) + x4 (ix1 j) := by
    unfold val_main_v32 val_main_v9 val_main_v8 val_main_v7
    generalize val_main_v6 (F := Ideal) x0 x3 = G
    pointwise
  have g : val_main_v6 (F := Ideal) x0 x3 (ix4 ⟨n.val / 256, by omega⟩ ⟨n.val % 256, by omega⟩ s j)
      = x3 (ix2 ⟨xs n s, hlt n s⟩ j) := by
    unfold val_main_v6
    refine gather_rows x3 _ _ _ s j (hlt n s) ?_
    have e5 : ∀ (i : Fin 32) (t : Fin 256), val_main_v5 (F := Ideal) x0 (ix4 i t s 0) = val_main_v4 (F := Ideal) x0 (ix3 i t s) := by
      intro i t
      unfold val_main_v5
      generalize val_main_v4 (F := Ideal) x0 = y
      pointwise
    rw [e5, index_at hlt hx]
    show BitVec.ofNat 32 (xs (256 * (n.val / 256) + n.val % 256) s) = _
    rw [hd]
  rw [e, g, h3 _ j, h4 j]
  exact (EReal.coe_add _ _).symm

/-- The nine rows of the large table, added up, and the bias. -/
theorem rows_at {x1 : S5679x512.Idx → EReal} {x2 : S512.Idx → EReal} {W : ℕ → ℕ → EReal} {b : ℕ → EReal} (h1 : At2 x1 W) (h2 : At1 x2 b)
    (i : Fin 32) (t : Fin 256) (j : Fin 512) :
    val_main_v31 (F := Ideal) x0 x1 x2 (ix3 i t j) = rows9 xs W b (256 * i + t) j := by
  have e : val_main_v31 (F := Ideal) x0 x1 x2 (ix3 i t j) = (∑ s : Fin 9, val_main_v27 (F := Ideal) x0 x1 (ix4 i t s j)) + x2 (ix1 j) := by
    unfold val_main_v31 val_main_v28 val_main_v30 val_main_v29 val_main_cst
    generalize val_main_v27 (F := Ideal) x0 x1 = G
    pointwise
  have g : ∀ s : Fin 9, val_main_v27 (F := Ideal) x0 x1 (ix4 i t s j) = W (631 * s + xs (256 * i + t) s) j := by
    intro s
    have hl := hlt (256 * i + t) s
    have hs := s.isLt
    unfold val_main_v27
    rw [gather_pairs _ _ i t s j s.isLt hl (n := xs (256 * i + t) s) (p := s.val)]
    · have r : val_main_v10 (F := Ideal) x1 (ix3 ⟨s.val, s.isLt⟩ ⟨xs (256 * i + t) s, hl⟩ j)
          = x1 (ix2 ⟨631 * s.val + xs (256 * i + t) s, by omega⟩ j) := by
        unfold val_main_v10
        exact shapeCast_apply x1 _ _ _ (by
          rw [Shape.rowMajor_val_three, Shape.rowMajor_val_two]
          show (631 * s.val + xs (256 * i + t) s) * 512 + j.val = (s.val * 631 + xs (256 * i + t) s) * 512 + j.val
          rw [Nat.mul_comm 631])
      rw [r]
      exact h1 _ j
    · unfold val_main_v26
      rw [concatenate_pair_apply_left (t := S32x256x9x2) (s₁ := S32x256x9x1) (s₂ := S32x256x9x1) 3 _ _ _ (ix4 i t s 0) rfl (ix4 i t s 0)
        (fun b => match b with | ⟨0, _⟩ => rfl | ⟨1, _⟩ => rfl | ⟨2, _⟩ => rfl | ⟨3, _⟩ => rfl)]
      have e24 : val_main_v24 (F := Ideal) (ix4 i t s 0) = val_main_v17 (F := Ideal) (ix3 0 0 s) := by
        unfold val_main_v24 val_main_v23
        generalize val_main_v17 (F := Ideal) = y
        pointwise
      have e12 : val_main_v12 (F := Ideal) (ix3 0 0 s) = BitVec.ofNat 32 s.val := by
        unfold val_main_v12 val_main_v11; pointwise
      rw [e24, val_main_v17_apply, val_main_v14_apply, val_main_v13_apply, val_main_c_1_apply, e12]
      exact wrap_word (by omega) _
    · unfold val_main_v26
      rw [concatenate_pair_apply_right (t := S32x256x9x2) (s₁ := S32x256x9x1) (s₂ := S32x256x9x1) 3 _ _ _ (ix4 i t s 1) rfl rfl (ix4 i t s 0)
        (fun b hb => match b with | ⟨0, _⟩ => rfl | ⟨1, _⟩ => rfl | ⟨2, _⟩ => rfl | ⟨3, _⟩ => absurd rfl hb) rfl]
      have e25 : val_main_v25 (F := Ideal) x0 (ix4 i t s 0) = val_main_v22 (F := Ideal) x0 (ix3 i t s) := by
        unfold val_main_v25
        generalize val_main_v22 (F := Ideal) x0 = y
        pointwise
      rw [e25, show val_main_v22 (F := Ideal) x0 = val_main_v4 (F := Ideal) x0 from rfl]
      exact index_at hlt hx i t s
  rw [e, h2 j, Finset.sum_congr rfl fun s _ => g s]
  exact congrArg (· + b j) (Finset.sum_range fun s => W (631 * s + xs (256 * i + t) s) j).symm

end

end Cert.Reference

end
-- ==== Proof.Reference.lean ====
/- The reference's result, read from what its argument arrays hold. -/
module

public import proofs.«01_k».proof.Proof.RefTables
import Idealize.ShloMosaic.Lib.Pointwise

@[expose] public section

set_option maxRecDepth 16384

noncomputable section

namespace Cert.Reference

open Idealize.ShloMosaic Cert.ReferenceIdeal Cert.ReferenceIdeal.Gen Cert.ReferenceIdeal.Read Cert.Reading Cert.Spec
open scoped BigOperators

section

variable {xs : ℕ → ℕ → ℕ} {aw : ℕ → ℕ → ℝ} {ab : ℕ → ℝ} {P : ℕ → Params} {W : ℕ → ℕ → EReal} {b : ℕ → EReal}
  {fw : ℕ → ℕ → EReal} {fb : ℕ → EReal} {x0 : S32x256x9.Idx → BitVec 32} {x1 : S5679x512.Idx → EReal} {x2 : S512.Idx → EReal}
  {x3 : S631x512.Idx → EReal} {x4 : S512.Idx → EReal} {x5 : S2x512x1536.Idx → EReal}
  {x6 : S2x1536.Idx → EReal} {x7 : S2x512x512.Idx → EReal} {x8 x9 x10 : S2x512.Idx → EReal} {x11 : S2x512x512.Idx → EReal}
  {x12 : S2x512.Idx → EReal} {x13 : S2x512x512.Idx → EReal} {x14 x15 x16 : S2x512.Idx → EReal}
  {x17 : S512x512.Idx → EReal} {x18 : S512.Idx → EReal}
  (H : Args xs aw ab P W b fw fb x0 x1 x2 x3 x4 x5 x6 x7 x8 x9 x10 x11 x12 x13 x14 x15 x16 x17 x18)

include H

theorem holds_first : Holds (P 0) (val_main_v34 (F := Ideal) x5) (val_main_v36 (F := Ideal) x6)
      (val_main_v38 (F := Ideal) x7) (val_main_v40 (F := Ideal) x8) (val_main_v42 (F := Ideal) x9) (val_main_v44 (F := Ideal) x10)
      (val_main_v46 (F := Ideal) x11) (val_main_v48 (F := Ideal) x12) (val_main_v50 (F := Ideal) x13) (val_main_v52 (F := Ideal) x14)
      (val_main_v54 (F := Ideal) x15) (val_main_v56 (F := Ideal) x16) :=
  ⟨H.a5.plane _ _, H.a6.line _ _, H.a7.plane _ _, H.a8.line _ _, H.a9.line _ _, H.a10.line _ _, H.a11.plane _ _, H.a12.line _ _,
    H.a13.plane _ _, H.a14.line _ _, H.a15.line _ _, H.a16.line _ _⟩

theorem holds_second : Holds (P 1) (val_main_v149 (F := Ideal) x5)
      (val_main_v151 (F := Ideal) x6) (val_main_v153 (F := Ideal) x7) (val_main_v155 (F := Ideal) x8) (val_main_v157 (F := Ideal) x9)
      (val_main_v159 (F := Ideal) x10) (val_main_v161 (F := Ideal) x11) (val_main_v163 (F := Ideal) x12) (val_main_v165 (F := Ideal) x13)
      (val_main_v167 (F := Ideal) x14) (val_main_v169 (F := Ideal) x15) (val_main_v171 (F := Ideal) x16) :=
  ⟨H.a5.plane _ _, H.a6.line _ _, H.a7.plane _ _, H.a8.line _ _, H.a9.line _ _, H.a10.line _ _, H.a11.plane _ _, H.a12.line _ _,
    H.a13.plane _ _, H.a14.line _ _, H.a15.line _ _, H.a16.line _ _⟩

/-- The two layers. -/
theorem layers_at : R3 (val_main_v262 (F := Ideal) x0 x3 x4 x5 x6 x7 x8 x9 x10 x11 x12 x13 x14 x15 x16)
    fun n => layer (P 1) (mid xs aw ab P n) :=
  (layerOf_at ((layerOf_at (emb_at H.lt H.x H.a3 H.a4) (holds_first H)).of_eq (first_eq ..)) (holds_second H)).of_eq (second_eq ..)

/-- The gate before its maximum. -/
theorem gate_at : At2 (val_main_v268 (F := Ideal) x0 x3 x4 x5 x6 x7 x8 x9 x10 x11 x12 x13 x14 x15 x16 x17 x18)
    fun n j => gate xs aw ab P fw fb n j := by
  intro n j
  have e : val_main_v268 (F := Ideal) x0 x3 x4 x5 x6 x7 x8 x9 x10 x11 x12 x13 x14 x15 x16 x17 x18 (ix2 n j)
      = (∑ k : Fin 512, val_main_v262 (F := Ideal) x0 x3 x4 x5 x6 x7 x8 x9 x10 x11 x12 x13 x14 x15 x16 (ix3 n 0 k) * x17 (ix2 k j))
        + x18 (ix1 j) := by
    unfold val_main_v268 val_main_v265 val_main_v264 val_main_v263 val_main_v267 val_main_v266
    generalize val_main_v262 (F := Ideal) x0 x3 x4 x5 x6 x7 x8 x9 x10 x11 x12 x13 x14 x15 x16 = Y
    pointwise
  rw [e, H.a18 j, Finset.sum_congr rfl fun k _ => congrArg₂ (· * ·) (layers_at H n 0 k) (H.a17 k j)]
  exact congrArg (· + fb j) (Finset.sum_range fun k => ((cls xs aw ab P n k : ℝ) : EReal) * fw k j).symm

/-- The reference's result. -/
theorem result_at : At2 (val_main_v274 (F := Ideal) x0 x1 x2 x3 x4 x5 x6 x7 x8 x9 x10 x11 x12 x13 x14 x15 x16 x17 x18)
    (result xs aw ab P W b fw fb) := by
  intro n j
  have hn : n.val < 8192 := n.isLt
  have hd : 256 * (n.val / 256) + n.val % 256 = n.val := Nat.div_add_mod _ _
  have e : val_main_v274 (F := Ideal) x0 x1 x2 x3 x4 x5 x6 x7 x8 x9 x10 x11 x12 x13 x14 x15 x16 x17 x18 (ix2 n j)
      = val_main_v31 (F := Ideal) x0 x1 x2 (ix3 ⟨n.val / 256, by omega⟩ ⟨n.val % 256, by omega⟩ j)
        * (1 + max (val_main_v268 (F := Ideal) x0 x3 x4 x5 x6 x7 x8 x9 x10 x11 x12 x13 x14 x15 x16 x17 x18 (ix2 n j)) 0) := by
    have e1 : val_main_v274 (F := Ideal) x0 x1 x2 x3 x4 x5 x6 x7 x8 x9 x10 x11 x12 x13 x14 x15 x16 x17 x18 (ix2 n j)
        = val_main_v273 (F := Ideal) x0 x1 x2 x3 x4 x5 x6 x7 x8 x9 x10 x11 x12 x13 x14 x15 x16 x17 x18
          (ix3 ⟨n.val / 256, by omega⟩ ⟨n.val % 256, by omega⟩ j) := by
      unfold val_main_v274
      generalize val_main_v273 (F := Ideal) x0 x1 x2 x3 x4 x5 x6 x7 x8 x9 x10 x11 x12 x13 x14 x15 x16 x17 x18 = Y
      exact shapeCast_apply Y _ _ _ (by
        rw [Shape.rowMajor_val_three, Shape.rowMajor_val_two]
        show (n.val / 256 * 256 + n.val % 256) * 512 + j.val = n.val * 512 + j.val
        rw [Nat.div_add_mod'])
    have e2 : val_main_v269 (F := Ideal) x0 x3 x4 x5 x6 x7 x8 x9 x10 x11 x12 x13 x14 x15 x16 x17 x18
          (ix3 ⟨n.val / 256, by omega⟩ ⟨n.val % 256, by omega⟩ j)
        = val_main_v268 (F := Ideal) x0 x3 x4 x5 x6 x7 x8 x9 x10 x11 x12 x13 x14 x15 x16 x17 x18 (ix2 n j) := by
      unfold val_main_v269
      generalize val_main_v268 (F := Ideal) x0 x3 x4 x5 x6 x7 x8 x9 x10 x11 x12 x13 x14 x15 x16 x17 x18 = Y
      exact shapeCast_apply Y _ _ _ (by
        rw [Shape.rowMajor_val_three, Shape.rowMajor_val_two]
        show n.val * 512 + j.val = (n.val / 256 * 256 + n.val % 256) * 512 + j.val
        rw [Nat.div_add_mod'])
    rw [e1, ← e2]
    show val_main_v31 (F := Ideal) x0 x1 x2 _ * (Ideal.ofBits .f32 0x3F800000#32 + max _ (Ideal.ofBits .f32 0x00000000#32)) = _
    rw [Ideal.ofBits_one_f32, Ideal.ofBits_zero_f32]
  rw [e, gate_at H n j, rows_at H.lt H.x H.a1 H.a2]
  show rows9 xs W b (256 * (n.val / 256) + n.val % 256) j * _ = _
  rw [hd]
  rfl

end

end Cert.Reference

end
-- ==== Proof.Precondition.lean ====
/- What the precondition says of the argument arrays: every index is a natural number below 631, and every entry of the encoder's
   parameters is a real number. The functions that describe the arrays are then read off the arrays themselves. -/
module

public import proofs.«01_k».proof.Proof.Args
public import proofs.«01_k».proof.Pre_in_range
public import proofs.«01_k».proof.Proof.Gen.Pre_in_range
import Idealize.ShloMosaic.Lib.ReduceAll

@[expose] public section

set_option maxRecDepth 16384

noncomputable section

namespace Cert.Precondition

open Idealize.ShloMosaic Cert.Reading Cert.Spec Cert.Pre_in_range Cert.Pre_in_range.Gen

/-- The word of plus infinity. -/
theorem word_top : Ideal.ofBits .f32 0x7F800000#32 = (⊤ : EReal) := by
  simp [Ideal.ofBits, Ideal.ieee]

/-- An extended real of absolute value below plus infinity is a real number. -/
theorem real_of_abs_lt {a : EReal} (h : max a (-a) < ⊤) : a = ((a.toReal : ℝ) : EReal) := by
  refine (EReal.coe_toReal ?_ ?_).symm
  · rintro rfl; simp at h
  · rintro rfl; simp at h

/-- An array all of whose absolute values are below plus infinity holds real numbers. -/
theorem real_of_all {s : Shape} {axes : List (Fin s.rank)} {a : FVec Ideal s .f32} {init : IVec S_ 1}
    (hb : S_.BroadcastsInDim s (![] : Fin 0 → Fin s.rank)) (hr : s.ReducesTo axes S_) {j : S_.Idx}
    (h : Host.reduce IntOp.andi
      (cmpf .olt (Host.absf a) (broadcastInDim s ![] hb (constant (F := Ideal) S_ .f32 0x7F800000#32))) init hr h_S_ j = 1#1)
    (i : s.Idx) : a i = (((a i).toReal : ℝ) : EReal) := by
  haveI : Subsingleton S_.Idx := ⟨fun a b => funext fun k => k.elim0⟩
  have e : Ideal.cmp .olt (max (a i) (-a i)) (Ideal.ofBits .f32 0x7F800000#32) = 1#1 := Host.reduce_andi_all _ init hr h_S_ j h i
  rw [word_top] at e
  refine real_of_abs_lt ?_
  by_contra hc
  simp [Ideal.cmp, hc] at e

/-- An array all of whose words are at least 0 and below 631 holds naturals below 631. -/
theorem small_of_all {s : Shape} {axes : List (Fin s.rank)} {x : IVec s 32} {init : IVec S_ 1}
    (hb hb' : S_.BroadcastsInDim s (![] : Fin 0 → Fin s.rank)) (hr : s.ReducesTo axes S_) {j : S_.Idx}
    (h : Host.reduce IntOp.andi
      (andi (cmpi .sge x (broadcastInDim s ![] hb (constantI S_ 32 0#32)))
        (cmpi .slt x (broadcastInDim s ![] hb' (constantI S_ 32 631#32)))) init hr h_S_ j = 1#1)
    (i : s.Idx) : (x i).toNat < 631 := by
  haveI : Subsingleton S_.Idx := ⟨fun a b => funext fun k => k.elim0⟩
  have e : IntOp.andi (IntOp.cmpi .sge (x i) 0#32) (IntOp.cmpi .slt (x i) 631#32) = 1#1 :=
    Host.reduce_andi_all _ init hr h_S_ j h i
  rw [IntOp.andi_eq_one, IntOp.cmpi_sge, IntOp.cmpi_slt] at e
  have h0 : (0#32 : BitVec 32).toInt = 0 := rfl
  have h1 : (631#32 : BitVec 32).toInt = 631 := rfl
  rw [h0, h1, BitVec.toInt_eq_toNat_cond] at e
  have := (x i).isLt
  split at e <;> omega

section Read

variable {α : Type} {p q r : ℕ} (z : α)

/-- The entries of an array as a function of naturals, with a fixed value outside. -/
def nat1 (v : (⟨1, ![p]⟩ : Shape).Idx → α) (i : ℕ) : α := if h : i < p then v (ix1 ⟨i, h⟩) else z

def nat2 (v : (⟨2, ![p, q]⟩ : Shape).Idx → α) (i j : ℕ) : α := if h : i < p ∧ j < q then v (ix2 ⟨i, h.1⟩ ⟨j, h.2⟩) else z

def nat3 (v : (⟨3, ![p, q, r]⟩ : Shape).Idx → α) (i j k : ℕ) : α :=
  if h : i < p ∧ j < q ∧ k < r then v (ix3 ⟨i, h.1⟩ ⟨j, h.2.1⟩ ⟨k, h.2.2⟩) else z

theorem nat1_at (v : (⟨1, ![p]⟩ : Shape).Idx → α) : At1 v (nat1 z v) := fun i => by simp [nat1]

theorem nat2_at (v : (⟨2, ![p, q]⟩ : Shape).Idx → α) : At2 v (nat2 z v) := fun i j => by simp [nat2]

theorem nat3_at (v : (⟨3, ![p, q, r]⟩ : Shape).Idx → α) : At3 v (nat3 z v) := fun i j k => by simp [nat3]

theorem nat1_real {v : (⟨1, ![p]⟩ : Shape).Idx → EReal} (h : ∀ i, v i = (((v i).toReal : ℝ) : EReal)) :
    At1 v fun j => ((nat1 0 (fun i => (v i).toReal) j : ℝ) : EReal) :=
  fun i => (h _).trans (congrArg _ (nat1_at 0 (fun i => (v i).toReal) i))

theorem nat2_real {v : (⟨2, ![p, q]⟩ : Shape).Idx → EReal} (h : ∀ i, v i = (((v i).toReal : ℝ) : EReal)) :
    R2 v (nat2 0 fun i => (v i).toReal) :=
  fun i j => (h _).trans (congrArg _ (nat2_at 0 (fun i => (v i).toReal) i j))

theorem nat3_real {v : (⟨3, ![p, q, r]⟩ : Shape).Idx → EReal} (h : ∀ i, v i = (((v i).toReal : ℝ) : EReal)) :
    R3 v (nat3 0 fun i => (v i).toReal) :=
  fun i j k => (h _).trans (congrArg _ (nat3_at 0 (fun i => (v i).toReal) i j k))

end Read

/-- Arguments of which the precondition holds are described by naturals below 631, reals and extended reals. -/
theorem args_of_pre {a0 : IVec S32x256x9 32} {a1 : FVec Ideal S5679x512 .f32} {a2 : FVec Ideal S512 .f32}
    {a3 : FVec Ideal S631x512 .f32} {a4 : FVec Ideal S512 .f32} {a5 : FVec Ideal S2x512x1536 .f32} {a6 : FVec Ideal S2x1536 .f32}
    {a7 : FVec Ideal S2x512x512 .f32} {a8 a9 a10 : FVec Ideal S2x512 .f32} {a11 : FVec Ideal S2x512x512 .f32}
    {a12 : FVec Ideal S2x512 .f32} {a13 : FVec Ideal S2x512x512 .f32} {a14 a15 a16 : FVec Ideal S2x512 .f32}
    {a17 : FVec Ideal S512x512 .f32} {a18 : FVec Ideal S512 .f32} {j : S_.Idx}
    (h : fn (F := Ideal) a0 a1 a2 a3 a4 a5 a6 a7 a8 a9 a10 a11 a12 a13 a14 a15 a16 a17 a18 j = 1#1) :
    ∃ xs aw ab P W b fw fb, Args xs aw ab P W b fw fb a0 a1 a2 a3 a4 a5 a6 a7 a8 a9 a10 a11 a12 a13 a14 a15 a16 a17 a18 := by
  dsimp only [fn, fn_part1, fn_part2, fn_part3, fn_part4] at h
  simp only [andi_apply, IntOp.andi_eq_one] at h
  obtain ⟨⟨⟨⟨⟨⟨⟨⟨⟨⟨⟨⟨⟨⟨h, h3⟩, h4⟩, h5⟩, h6⟩, h7⟩, h8⟩, h9⟩, h10⟩, h11⟩, h12⟩, h13⟩, h14⟩, h15⟩, h16⟩ := h
  have hx := small_of_all bcast_S_S32x256x9 bcast_S_S32x256x9 reducesTo_S32x256x9_S_d0_1_2 h
  refine ⟨fun n s => nat3 0 (fun i => (a0 i).toNat) (n / 256) (n % 256) s, nat2 0 fun i => (a3 i).toReal,
    nat1 0 fun i => (a4 i).toReal,
    fun l => ⟨nat3 0 (fun i => (a5 i).toReal) l, nat2 0 (fun i => (a6 i).toReal) l, nat3 0 (fun i => (a7 i).toReal) l,
      nat2 0 (fun i => (a8 i).toReal) l, nat2 0 (fun i => (a9 i).toReal) l, nat2 0 (fun i => (a10 i).toReal) l,
      nat3 0 (fun i => (a11 i).toReal) l, nat2 0 (fun i => (a12 i).toReal) l, nat3 0 (fun i => (a13 i).toReal) l,
      nat2 0 (fun i => (a14 i).toReal) l, nat2 0 (fun i => (a15 i).toReal) l, nat2 0 (fun i => (a16 i).toReal) l⟩,
    nat2 0 a1, nat1 0 a2, nat2 0 a17, nat1 0 a18, ?_⟩
  refine
    { lt := fun n s => ?_, x := fun i t s => ?_, a1 := nat2_at 0 a1, a2 := nat1_at 0 a2, a17 := nat2_at 0 a17, a18 := nat1_at 0 a18,
      a3 := nat2_real (real_of_all bcast_S_S631x512 reducesTo_S631x512_S_d0_1 h3),
      a4 := nat1_real (real_of_all bcast_S_S512 reducesTo_S512_S_d0 h4),
      a5 := nat3_real (real_of_all bcast_S_S2x512x1536 reducesTo_S2x512x1536_S_d0_1_2 h5),
      a6 := nat2_real (real_of_all bcast_S_S2x1536 reducesTo_S2x1536_S_d0_1 h6),
      a7 := nat3_real (real_of_all bcast_S_S2x512x512 reducesTo_S2x512x512_S_d0_1_2 h7),
      a8 := nat2_real (real_of_all bcast_S_S2x512 reducesTo_S2x512_S_d0_1 h8),
      a9 := nat2_real (real_of_all bcast_S_S2x512 reducesTo_S2x512_S_d0_1 h9),
      a10 := nat2_real (real_of_all bcast_S_S2x512 reducesTo_S2x512_S_d0_1 h10),
      a11 := nat3_real (real_of_all bcast_S_S2x512x512 reducesTo_S2x512x512_S_d0_1_2 h11),
      a12 := nat2_real (real_of_all bcast_S_S2x512 reducesTo_S2x512_S_d0_1 h12),
      a13 := nat3_real (real_of_all bcast_S_S2x512x512 reducesTo_S2x512x512_S_d0_1_2 h13),
      a14 := nat2_real (real_of_all bcast_S_S2x512 reducesTo_S2x512_S_d0_1 h14),
      a15 := nat2_real (real_of_all bcast_S_S2x512 reducesTo_S2x512_S_d0_1 h15),
      a16 := nat2_real (real_of_all bcast_S_S2x512 reducesTo_S2x512_S_d0_1 h16) }
  · show nat3 0 (fun i => (a0 i).toNat) (n / 256) (n % 256) s < 631
    unfold nat3
    split
    · exact hx _
    · norm_num
  · have ht : t.val < 256 := t.isLt
    have hq : (256 * i.val + t.val) / 256 = i.val := by omega
    have hr : (256 * i.val + t.val) % 256 = t.val := by omega
    show a0 (ix3 i t s) = BitVec.ofNat 32 (nat3 0 (fun i => (a0 i).toNat) ((256 * i.val + t.val) / 256) ((256 * i.val + t.val) % 256) s)
    rw [hq, hr, ← nat3_at 0 (fun i => (a0 i).toNat) i t s, BitVec.ofNat_toNat, BitVec.setWidth_eq]

end Cert.Precondition

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_in_range
public import proofs.«01_k».proof.Proof.Array
public import proofs.«01_k».proof.Proof.Reference
public import proofs.«01_k».proof.Proof.Precondition
public import Idealize.ShloMosaic.Adequacy
public import Idealize.ShloMosaic.Init

@[expose] public section

noncomputable section

namespace Cert.Proof

open Idealize.ShloMosaic Idealize.SL.Sem Cert.Reading Cert.Spec

/-- The reference runs, keeps its arguments and has no semaphore. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- The one named constant, the mask, reads as minus infinity. -/
theorem preserves : Cert.preserves_Kernel_KernelIdeal :=
  IdealRules.named_const.statement Cert.KernelIdeal.κ "mask" .f32 0xF149F2CA#32 ⊥ rfl

/-- From equal arguments of which the precondition holds, the reference's result array is the kernel's output array. -/
theorem results_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hm : Pre_KernelIdeal_in_range m) (c : Dev Cert.KernelIdeal.nD)
    (e0 : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0))
    (e1 : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1))
    (e2 : m' ((c.tc : Thread Cert.ReferenceIdeal.nD Cert.ReferenceIdeal.τ).loc Cert.ReferenceIdeal.main_arg2)
      = m ((c.tc : Thread Cert.KernelIdeal.nD Cert.KernelIdeal.τ).loc Cert.KernelIdeal.main_arg2))
    (e3 : m' ((c.tc : Thread Cert.ReferenceIdeal.nD Cert.ReferenceIdeal.τ).loc Cert.ReferenceIdeal.main_arg3)
      = m ((c.tc : Thread Cert.KernelIdeal.nD Cert.KernelIdeal.τ).loc Cert.KernelIdeal.main_arg3))
    (e4 : m' ((c.tc : Thread Cert.ReferenceIdeal.nD Cert.ReferenceIdeal.τ).loc Cert.ReferenceIdeal.main_arg4)
      = m ((c.tc : Thread Cert.KernelIdeal.nD Cert.KernelIdeal.τ).loc Cert.KernelIdeal.main_arg4))
    (e5 : m' ((c.tc : Thread Cert.ReferenceIdeal.nD Cert.ReferenceIdeal.τ).loc Cert.ReferenceIdeal.main_arg5)
      = m ((c.tc : Thread Cert.KernelIdeal.nD Cert.KernelIdeal.τ).loc Cert.KernelIdeal.main_arg5))
    (e6 : m' ((c.tc : Thread Cert.ReferenceIdeal.nD Cert.ReferenceIdeal.τ).loc Cert.ReferenceIdeal.main_arg6)
      = m ((c.tc : Thread Cert.KernelIdeal.nD Cert.KernelIdeal.τ).loc Cert.KernelIdeal.main_arg6))
    (e7 : m' ((c.tc : Thread Cert.ReferenceIdeal.nD Cert.ReferenceIdeal.τ).loc Cert.ReferenceIdeal.main_arg7)
      = m ((c.tc : Thread Cert.KernelIdeal.nD Cert.KernelIdeal.τ).loc Cert.KernelIdeal.main_arg7))
    (e8 : m' ((c.tc : Thread Cert.ReferenceIdeal.nD Cert.ReferenceIdeal.τ).loc Cert.ReferenceIdeal.main_arg8)
      = m ((c.tc : Thread Cert.KernelIdeal.nD Cert.KernelIdeal.τ).loc Cert.KernelIdeal.main_arg8))
    (e9 : m' ((c.tc : Thread Cert.ReferenceIdeal.nD Cert.ReferenceIdeal.τ).loc Cert.ReferenceIdeal.main_arg9)
      = m ((c.tc : Thread Cert.KernelIdeal.nD Cert.KernelIdeal.τ).loc Cert.KernelIdeal.main_arg9))
    (e10 : m' ((c.tc : Thread Cert.ReferenceIdeal.nD Cert.ReferenceIdeal.τ).loc Cert.ReferenceIdeal.main_arg10)
      = m ((c.tc : Thread Cert.KernelIdeal.nD Cert.KernelIdeal.τ).loc Cert.KernelIdeal.main_arg10))
    (e11 : m' ((c.tc : Thread Cert.ReferenceIdeal.nD Cert.ReferenceIdeal.τ).loc Cert.ReferenceIdeal.main_arg11)
      = m ((c.tc : Thread Cert.KernelIdeal.nD Cert.KernelIdeal.τ).loc Cert.KernelIdeal.main_arg11))
    (e12 : m' ((c.tc : Thread Cert.ReferenceIdeal.nD Cert.ReferenceIdeal.τ).loc Cert.ReferenceIdeal.main_arg12)
      = m ((c.tc : Thread Cert.KernelIdeal.nD Cert.KernelIdeal.τ).loc Cert.KernelIdeal.main_arg12))
    (e13 : m' ((c.tc : Thread Cert.ReferenceIdeal.nD Cert.ReferenceIdeal.τ).loc Cert.ReferenceIdeal.main_arg13)
      = m ((c.tc : Thread Cert.KernelIdeal.nD Cert.KernelIdeal.τ).loc Cert.KernelIdeal.main_arg13))
    (e14 : m' ((c.tc : Thread Cert.ReferenceIdeal.nD Cert.ReferenceIdeal.τ).loc Cert.ReferenceIdeal.main_arg14)
      = m ((c.tc : Thread Cert.KernelIdeal.nD Cert.KernelIdeal.τ).loc Cert.KernelIdeal.main_arg14))
    (e15 : m' ((c.tc : Thread Cert.ReferenceIdeal.nD Cert.ReferenceIdeal.τ).loc Cert.ReferenceIdeal.main_arg15)
      = m ((c.tc : Thread Cert.KernelIdeal.nD Cert.KernelIdeal.τ).loc Cert.KernelIdeal.main_arg15))
    (e16 : m' ((c.tc : Thread Cert.ReferenceIdeal.nD Cert.ReferenceIdeal.τ).loc Cert.ReferenceIdeal.main_arg16)
      = m ((c.tc : Thread Cert.KernelIdeal.nD Cert.KernelIdeal.τ).loc Cert.KernelIdeal.main_arg16))
    (e17 : m' ((c.tc : Thread Cert.ReferenceIdeal.nD Cert.ReferenceIdeal.τ).loc Cert.ReferenceIdeal.main_arg17)
      = m ((c.tc : Thread Cert.KernelIdeal.nD Cert.KernelIdeal.τ).loc Cert.KernelIdeal.main_arg17))
    (e18 : m' ((c.tc : Thread Cert.ReferenceIdeal.nD Cert.ReferenceIdeal.τ).loc Cert.ReferenceIdeal.main_arg18)
      = m ((c.tc : Thread Cert.KernelIdeal.nD Cert.KernelIdeal.τ).loc Cert.KernelIdeal.main_arg18)) :
    Cert.ReferenceIdeal.Read.val_main_v274 (F := Ideal)
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6))
      (m' ((c.tc : Thread Cert.ReferenceIdeal.nD Cert.ReferenceIdeal.τ).loc Cert.ReferenceIdeal.main_arg7))
      (m' ((c.tc : Thread Cert.ReferenceIdeal.nD Cert.ReferenceIdeal.τ).loc Cert.ReferenceIdeal.main_arg8))
      (m' ((c.tc : Thread Cert.ReferenceIdeal.nD Cert.ReferenceIdeal.τ).loc Cert.ReferenceIdeal.main_arg9))
      (m' ((c.tc : Thread Cert.ReferenceIdeal.nD Cert.ReferenceIdeal.τ).loc Cert.ReferenceIdeal.main_arg10))
      (m' ((c.tc : Thread Cert.ReferenceIdeal.nD Cert.ReferenceIdeal.τ).loc Cert.ReferenceIdeal.main_arg11))
      (m' ((c.tc : Thread Cert.ReferenceIdeal.nD Cert.ReferenceIdeal.τ).loc Cert.ReferenceIdeal.main_arg12))
      (m' ((c.tc : Thread Cert.ReferenceIdeal.nD Cert.ReferenceIdeal.τ).loc Cert.ReferenceIdeal.main_arg13))
      (m' ((c.tc : Thread Cert.ReferenceIdeal.nD Cert.ReferenceIdeal.τ).loc Cert.ReferenceIdeal.main_arg14))
      (m' ((c.tc : Thread Cert.ReferenceIdeal.nD Cert.ReferenceIdeal.τ).loc Cert.ReferenceIdeal.main_arg15))
      (m' ((c.tc : Thread Cert.ReferenceIdeal.nD Cert.ReferenceIdeal.τ).loc Cert.ReferenceIdeal.main_arg16))
      (m' ((c.tc : Thread Cert.ReferenceIdeal.nD Cert.ReferenceIdeal.τ).loc Cert.ReferenceIdeal.main_arg17))
      (m' ((c.tc : Thread Cert.ReferenceIdeal.nD Cert.ReferenceIdeal.τ).loc Cert.ReferenceIdeal.main_arg18))
      = (Cert.KernelIdeal.Gen.dats m 0 c).arrAt 22 Cert.KernelIdeal.cfg0.N := by
  obtain ⟨xs, aw, ab, P, W, b, fw, fb, H⟩ := Cert.Precondition.args_of_pre (congrFun (hm c) fun k => k.elim0)
  refine Eq.trans ?_ (Cert.KernelIdeal.Array.final m c H).symm
  rw [e0, e1, e2, e3, e4, e5, e6, e7, e8, e9, e10, e11, e12, e13, e14, e15, e16, e17, e18]
  funext i
  obtain ⟨n, j, rfl⟩ : ∃ (n : Fin 8192) (j : Fin 512), i = ix2 n j := ⟨i 0, i 1, ValueIdx.eq_ix2 i⟩
  exact Cert.Reference.result_at H n j

/-- The value claim. -/
theorem algebraic : Cert.algebraic_KernelIdeal_ReferenceIdeal_pre_in_range := fun m g m' g' hm hargs =>
  ⟨fun c => (Cert.KernelIdeal.Gen.dats m 0 c).arrAt 22 Cert.KernelIdeal.cfg0.N, Cert.KernelIdeal.Value.run_blocks m g,
    (θ_run Cert.ReferenceIdeal.defs _ _).mono (fun r h c => ⟨(h c).1.trans (by
      refine (Cert.ReferenceIdeal.Read.val_main_v274_eq (StableHlo.launchContents m' c)).trans ?_
      obtain ⟨e0, e1, e2, e3, e4, e5, e6, e7, e8, e9, e10, e11, e12, e13, e14, e15, e16, e17, e18⟩ := hargs c
      exact results_agree m m' hm c e0 e1 e2 e3 e4 e5 e6 e7 e8 e9 e10 e11 e12 e13 e14 e15 e16 e17 e18), (h c).2⟩) (Cert.ReferenceIdeal.Value.run (F := Ideal) m' g')⟩

theorem claim : Cert.Claim :=
  ⟨Cert.Kernel.Gen.facts, Cert.KernelIdeal.Gen.facts, Cert.ReferenceIdeal.Gen.facts, Cert.Pre_in_range.Gen.facts,
    fun m ρ _ => Cert.Kernel.Gen.frame m ρ, fun m ρ _ => Cert.KernelIdeal.Gen.frame m ρ, fun m ρ _ => Cert.KernelIdeal.Gen.frame m ρ,
    frame_reference, fun m ρ _ => frame_reference m ρ trivial, preserves, algebraic⟩

end Cert.Proof

end
